-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_unit [hPre_in_unit : Cert.Pre_in_unit.Facts] (m : (ℓ : Loc Cert.KernelIdeal.nD Cert.KernelIdeal.τ Cert.KernelIdeal.sig) → Buf (Elt Ideal) ℓ) : Prop :=
  ∀ c : Dev Cert.KernelIdeal.nD,
    (Cert.Pre_in_unit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_in_unit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_in_unit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_unit [hPre_in_unit : Cert.Pre_in_unit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_unit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_in_unit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_in_unit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_unit [hKernelIdeal : Cert.KernelIdeal.Facts] [hPre_in_unit : Cert.Pre_in_unit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_unit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_unit [hReferenceIdeal : Cert.ReferenceIdeal.Facts] [hPre_in_unit : Cert.Pre_in_unit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_unit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_unit [hKernelIdeal : Cert.KernelIdeal.Facts] [hReferenceIdeal : Cert.ReferenceIdeal.Facts] [hPre_in_unit : Cert.Pre_in_unit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_unit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_unit : Cert.Pre_in_unit.Facts),
    quiescent_Kernel (hKernel := hKernel)
    ∧ quiescent_KernelIdeal (hKernelIdeal := hKernelIdeal)
    ∧ quiescent_KernelIdeal_pre_in_unit (hKernelIdeal := hKernelIdeal) (hPre_in_unit := hPre_in_unit)
    ∧ quiescent_ReferenceIdeal (hReferenceIdeal := hReferenceIdeal)
    ∧ quiescent_ReferenceIdeal_pre_in_unit (hReferenceIdeal := hReferenceIdeal) (hPre_in_unit := hPre_in_unit)
    ∧ preserves_Kernel_KernelIdeal
    ∧ algebraic_KernelIdeal_ReferenceIdeal_pre_in_unit (hKernelIdeal := hKernelIdeal) (hReferenceIdeal := hReferenceIdeal) (hPre_in_unit := hPre_in_unit)
-- ==== Pre_in_unit.lean ====
abbrev S65536x17 : Shape := ⟨2, ![65536, 17]⟩
abbrev S8x128 : Shape := ⟨2, ![8, 128]⟩
abbrev S128 : Shape := ⟨1, ![128]⟩
abbrev S128x512 : Shape := ⟨2, ![128, 512]⟩
abbrev S512 : Shape := ⟨1, ![512]⟩
abbrev S65536x8 : Shape := ⟨2, ![65536, 8]⟩
abbrev S_ : Shape := ⟨0, ![]⟩

class Facts : Prop where
  slices_S65536x17_S65536x8_0_8 : S65536x17.Slices ![0, 8] S65536x8
  bcast_S_S65536x8 : S_.BroadcastsInDim S65536x8 (![] : Fin 0 → Fin S65536x8.rank)
  bcast_S_S128x512 : S_.BroadcastsInDim S128x512 (![] : Fin 0 → Fin S128x512.rank)
  bcast_S_S512 : S_.BroadcastsInDim S512 (![] : Fin 0 → Fin S512.rank)

variable [Facts]

def fn {F : FTy → Type} [FloatOps F] (main_arg0 : FVec F S65536x17 .f32) (main_arg1 : FVec F S8x128 .f32) (main_arg2 : FVec F S128 .f32) (main_arg3 : FVec F S128x512 .f32) (main_arg4 : FVec F S512 .f32) : IVec S65536x8 1 × IVec S128x512 1 × IVec S512 1 :=
  let main_v0 : FVec F S65536x8 .f32 := (extractStridedSlice S65536x8 ![0, 8] · slices_S65536x17_S65536x8_0_8) main_arg0
  let main_cst : FVec F S_ .f32 := constant S_ .f32 0x00000000#32
  let main_v1 : FVec F S65536x8 .f32 := broadcastInDim S65536x8 ![] bcast_S_S65536x8 main_cst
  let main_v2 : IVec S65536x8 1 := cmpf .oge main_v0 main_v1
  let main_cst_0 : FVec F S_ .f32 := constant S_ .f32 0x3F800000#32
  let main_v3 : FVec F S65536x8 .f32 := broadcastInDim S65536x8 ![] bcast_S_S65536x8 main_cst_0
  let main_v4 : IVec S65536x8 1 := cmpf .olt main_v0 main_v3
  let main_v5 : IVec S65536x8 1 := andi main_v2 main_v4
  let main_cst_1 : FVec F S_ .f32 := constant S_ .f32 0xFF800000#32
  let main_v6 : FVec F S128x512 .f32 := broadcastInDim S128x512 ![] bcast_S_S128x512 main_cst_1
  let main_v7 : IVec S128x512 1 := cmpf .ogt main_arg3 main_v6
  let main_cst_2 : FVec F S_ .f32 := constant S_ .f32 0x7F800000#32
  let main_v8 : FVec F S128x512 .f32 := broadcastInDim S128x512 ![] bcast_S_S128x512 main_cst_2
  let main_v9 : IVec S128x512 1 := cmpf .olt main_arg3 main_v8
  let main_v10 : IVec S128x512 1 := andi main_v7 main_v9
  let main_cst_3 : FVec F S_ .f32 := constant S_ .f32 0xFF800000#32
  let main_v11 : FVec F S512 .f32 := broadcastInDim S512 ![] bcast_S_S512 main_cst_3
  let main_v12 : IVec S512 1 := cmpf .ogt main_arg4 main_v11
  (main_v5, main_v10, main_v12)
-- ==== Kernel.lean ====
abbrev S65536x17 : Shape := ⟨2, ![65536, 17]⟩
abbrev S8x128 : Shape := ⟨2, ![8, 128]⟩
abbrev S128 : Shape := ⟨1, ![128]⟩
abbrev S128x512 : Shape := ⟨2, ![128, 512]⟩
abbrev S512 : Shape := ⟨1, ![512]⟩
abbrev S1x128 : Shape := ⟨2, ![1, 128]⟩
abbrev S1x512 : Shape := ⟨2, ![1, 512]⟩
abbrev S2048x17 : Shape := ⟨2, ![2048, 17]⟩
abbrev S2048x8 : Shape := ⟨2, ![2048, 8]⟩
abbrev S2048x1 : Shape := ⟨2, ![2048, 1]⟩
abbrev S2048x128 : Shape := ⟨2, ![2048, 128]⟩
abbrev S2048x512 : Shape := ⟨2, ![2048, 512]⟩
abbrev S8x512 : Shape := ⟨2, ![8, 512]⟩
abbrev S4096x8 : Shape := ⟨2, ![4096, 8]⟩
abbrev S4096x512 : Shape := ⟨2, ![4096, 512]⟩
abbrev S6144x512 : Shape := ⟨2, ![6144, 512]⟩
abbrev S6144x8 : Shape := ⟨2, ![6144, 8]⟩
abbrev S2048 : Shape := ⟨1, ![2048]⟩

abbrev nBuf : Space → Nat
  | .hbm => 8
  | .vmem => 8
  | .smem => 0
  | _ => 0

abbrev bufTy : (tb : Table) → Fin (tcTables nBuf tb) → BufTy
  | .hbm, ⟨0, _⟩ => ⟨S65536x17, .f32⟩
  | .hbm, ⟨1, _⟩ => ⟨S8x128, .f32⟩
  | .hbm, ⟨2, _⟩ => ⟨S128, .f32⟩
  | .hbm, ⟨3, _⟩ => ⟨S128x512, .f32⟩
  | .hbm, ⟨4, _⟩ => ⟨S512, .f32⟩
  | .hbm, ⟨5, _⟩ => ⟨S1x128, .f32⟩
  | .hbm, ⟨6, _⟩ => ⟨S1x512, .f32⟩
  | .hbm, ⟨7, _⟩ => ⟨S65536x17, .f32⟩
  | .local _ .vmem, ⟨0, _⟩ => ⟨S2048x17, .f32⟩
  | .local _ .vmem, ⟨1, _⟩ => ⟨S2048x17, .f32⟩
  | .local _ .vmem, ⟨2, _⟩ => ⟨S8x128, .f32⟩
  | .local _ .vmem, ⟨3, _⟩ => ⟨S1x128, .f32⟩
  | .local _ .vmem, ⟨4, _⟩ => ⟨S128x512, .f32⟩
  | .local _ .vmem, ⟨5, _⟩ => ⟨S1x512, .f32⟩
  | .local _ .vmem, ⟨6, _⟩ => ⟨S2048x17, .f32⟩
  | .local _ .vmem, ⟨7, _⟩ => ⟨S2048x17, .f32⟩
  | _, _ => ⟨S65536x17, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x17 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x17 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S65536x17 : Shape := ⟨2, ![65536, 17]⟩
abbrev S8x128 : Shape := ⟨2, ![8, 128]⟩
abbrev S128 : Shape := ⟨1, ![128]⟩
abbrev S128x512 : Shape := ⟨2, ![128, 512]⟩
abbrev S512 : Shape := ⟨1, ![512]⟩
abbrev S65536x8 : Shape := ⟨2, ![65536, 8]⟩
abbrev S65536x1 : Shape := ⟨2, ![65536, 1]⟩
abbrev S65536x128 : Shape := ⟨2, ![65536, 128]⟩
abbrev S1x128 : Shape := ⟨2, ![1, 128]⟩
abbrev S65536x512 : Shape := ⟨2, ![65536, 512]⟩
abbrev S1x512 : Shape := ⟨2, ![1, 512]⟩
abbrev S_ : Shape := ⟨0, ![]⟩
abbrev S65536x8x64 : Shape := ⟨3, ![65536, 8, 64]⟩
abbrev S65536x8x1 : Shape := ⟨3, ![65536, 8, 1]⟩
abbrev S65536x8x65 : Shape := ⟨3, ![65536, 8, 65]⟩
abbrev S65536x8x1x1 : Shape := ⟨4, ![65536, 8, 1, 1]⟩
abbrev S1 : Shape := ⟨1, ![1]⟩
abbrev S1x1x1x1 : Shape := ⟨4, ![1, 1, 1, 1]⟩
abbrev S65536x1x1 : Shape := ⟨3, ![65536, 1, 1]⟩

abbrev nBuf : Space → Nat
  | .hbm => 129
  | .vmem => 0
  | .smem => 0
  | _ => 0

abbrev hbmTy0_0 (i : Nat) : BufTy := match i % 128 with
  | 0 => ⟨S65536x17, .f32⟩
  | 1 => ⟨S8x128, .f32⟩
  | 2 => ⟨S128, .f32⟩
  | 3 => ⟨S128x512, .f32⟩
  | 4 => ⟨S512, .f32⟩
  | 5 => ⟨S65536x8, .f32⟩
  | 6 => ⟨S65536x8, .f32⟩
  | 7 => ⟨S65536x1, .f32⟩
  | 8 => ⟨S65536x128, .f32⟩
  | 9 => ⟨S1x128, .f32⟩
  | 10 => ⟨S65536x128, .f32⟩
  | 11 => ⟨S65536x128, .f32⟩
  | 12 => ⟨S65536x128, .f32⟩
  | 13 => ⟨S65536x512, .f32⟩
  | 14 => ⟨S1x512, .f32⟩
  | 15 => ⟨S65536x512, .f32⟩
  | 16 => ⟨S65536x512, .f32⟩
  | 17 => ⟨S_, .f32⟩
  | 18 => ⟨S65536x512, .f32⟩
  | 19 => ⟨S65536x512, .f32⟩
  | 20 => ⟨S65536x512, .f32⟩
  | 21 => ⟨S65536x512, .f32⟩
  | 22 => ⟨S65536x512, .i1⟩
  | 23 => ⟨S65536x512, .f32⟩
  | 24 => ⟨S65536x512, .f32⟩
  | 25 => ⟨S65536x512, .f32⟩
  | 26 => ⟨S65536x512, .f32⟩
  | 27 => ⟨S65536x512, .f32⟩
  | 28 => ⟨S65536x512, .f32⟩
  | 29 => ⟨S65536x512, .f32⟩
  | 30 => ⟨S65536x512, .f32⟩
  | 31 => ⟨S65536x8x64, .f32⟩
  | 32 => ⟨S_, .f32⟩
  | 33 => ⟨S_, .f32⟩
  | 34 => ⟨S65536x8x64, .f32⟩
  | 35 => ⟨S65536x8x1, .f32⟩
  | 36 => ⟨S_, .f32⟩
  | 37 => ⟨S65536x8x1, .f32⟩
  | 38 => ⟨S65536x8x1, .f32⟩
  | 39 => ⟨S65536x8x64, .f32⟩
  | 40 => ⟨S65536x8x64, .f32⟩
  | 41 => ⟨S65536x8x64, .f32⟩
  | 42 => ⟨S65536x8x64, .f32⟩
  | 43 => ⟨S_, .i32⟩
  | 44 => ⟨S_, .f32⟩
  | 45 => ⟨S65536x8x65, .f32⟩
  | 46 => ⟨S_, .f32⟩
  | 47 => ⟨S65536x8, .f32⟩
  | 48 => ⟨S65536x8, .f32⟩
  | 49 => ⟨S65536x8, .f32⟩
  | 50 => ⟨S65536x8, .f32⟩
  | 51 => ⟨S_, .f32⟩
  | 52 => ⟨S65536x8, .f32⟩
  | 53 => ⟨S65536x8, .f32⟩
  | 54 => ⟨S65536x8, .i32⟩
  | 55 => ⟨S65536x8x1, .i32⟩
  | 56 => ⟨S_, .i32⟩
  | 57 => ⟨S65536x8x1, .i32⟩
  | 58 => ⟨S65536x8x1, .i1⟩
  | 59 => ⟨S_, .i32⟩
  | 60 => ⟨S65536x8x1, .i32⟩
  | 61 => ⟨S65536x8x1, .i32⟩
  | 62 => ⟨S65536x8x1, .i32⟩
  | 63 => ⟨S65536x8x1x1, .i32⟩
  | 64 => ⟨S1, .i32⟩
  | 65 => ⟨S_, .i32⟩
  | 66 => ⟨S65536x8x1x1, .i32⟩
  | 67 => ⟨S65536x8x1x1, .i1⟩
  | 68 => ⟨S1x1x1x1, .i32⟩
  | 69 => ⟨S65536x8x1x1, .i32⟩
  | 70 => ⟨S65536x8x1x1, .i1⟩
  | 71 => ⟨S65536x8x1x1, .i1⟩
  | 72 => ⟨S_, .i1⟩
  | 73 => ⟨S65536x8x1, .i1⟩
  | 74 => ⟨S65536x8x1, .f32⟩
  | 75 => ⟨S_, .f32⟩
  | 76 => ⟨S65536x8x1, .f32⟩
  | 77 => ⟨S65536x8x1, .f32⟩
  | 78 => ⟨S_, .i32⟩
  | 79 => ⟨S65536x8x1, .i32⟩
  | 80 => ⟨S65536x8x1, .i1⟩
  | 81 => ⟨S_, .i32⟩
  | 82 => ⟨S65536x8x1, .i32⟩
  | 83 => ⟨S65536x8x1, .i32⟩
  | 84 => ⟨S65536x8x1, .i32⟩
  | 85 => ⟨S65536x8x1x1, .i32⟩
  | 86 => ⟨S1, .i32⟩
  | 87 => ⟨S_, .i32⟩
  | 88 => ⟨S65536x8x1x1, .i32⟩
  | 89 => ⟨S65536x8x1x1, .i1⟩
  | 90 => ⟨S1x1x1x1, .i32⟩
  | 91 => ⟨S65536x8x1x1, .i32⟩
  | 92 => ⟨S65536x8x1x1, .i1⟩
  | 93 => ⟨S65536x8x1x1, .i1⟩
  | 94 => ⟨S_, .i1⟩
  | 95 => ⟨S65536x8x1, .i1⟩
  | 96 => ⟨S65536x8x1, .f32⟩
  | 97 => ⟨S_, .f32⟩
  | 98 => ⟨S65536x8x1, .f32⟩
  | 99 => ⟨S65536x8x1, .f32⟩
  | 100 => ⟨S65536x8x1, .f32⟩
  | 101 => ⟨S65536x8x1, .f32⟩
  | 102 => ⟨S65536x8x1, .f32⟩
  | 103 => ⟨S65536x8, .f32⟩
  | 104 => ⟨S65536x1x1, .f32⟩
  | 105 => ⟨S65536x1, .f32⟩
  | 106 => ⟨S65536x1x1, .f32⟩
  | 107 => ⟨S65536x1, .f32⟩
  | 108 => ⟨S65536x1, .f32⟩
  | 109 => ⟨S65536x1x1, .f32⟩
  | 110 => ⟨S65536x1, .f32⟩
  | 111 => ⟨S65536x1, .f32⟩
  | 112 => ⟨S65536x1x1, .f32⟩
  | 113 => ⟨S65536x1, .f32⟩
  | 114 => ⟨S65536x1, .f32⟩
  | 115 => ⟨S65536x1x1, .f32⟩
  | 116 => ⟨S65536x1, .f32⟩
  | 117 => ⟨S65536x1, .f32⟩
  | 118 => ⟨S65536x1x1, .f32⟩
  | 119 => ⟨S65536x1, .f32⟩
  | 120 => ⟨S65536x1, .f32⟩
  | 121 => ⟨S65536x1x1, .f32⟩
  | 122 => ⟨S65536x1, .f32⟩
  | 123 => ⟨S65536x1, .f32⟩
  | 124 => ⟨S65536x1x1, .f32⟩
  | 125 => ⟨S65536x1, .f32⟩
  | 126 => ⟨S65536x1, .f32⟩
  | 127 => ⟨S65536x1, .f32⟩
  | _ => ⟨S65536x17, .f32⟩

abbrev hbmTy0_1 (i : Nat) : BufTy := match i % 128 with
  | 0 => ⟨S65536x17, .f32⟩
  | _ => ⟨S65536x17, .f32⟩

abbrev hbmTy (i : Nat) : BufTy := match i / 128 with
  | 0 => hbmTy0_0 i
  | 1 => hbmTy0_1 i
  | _ => ⟨S65536x17, .f32⟩

abbrev bufTy : (tb : Table) → Fin (tcTables nBuf tb) → BufTy
  | .hbm, ⟨i, _⟩ => hbmTy i
  | _, _ => ⟨S65536x17, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v12 : Ref sig .tc := ⟨.hbm, 30, rfl⟩
abbrev main_v13 : Ref sig .tc := ⟨.hbm, 31, rfl⟩
abbrev main_call1_call0_cst : Ref sig .tc := ⟨.hbm, 32, rfl⟩
abbrev main_call1_call0_v0 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c : Ref sig .tc := ⟨.hbm, 43, rfl⟩
abbrev main_call2_v0 : Ref sig .tc := ⟨.hbm, 44, rfl⟩
abbrev main_v22 : Ref sig .tc := ⟨.hbm, 45, rfl⟩
abbrev main_cst_0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_1 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_call3_c : Ref sig .tc := ⟨.hbm, 56, rfl⟩
abbrev main_call3_v0 : Ref sig .tc := ⟨.hbm, 57, rfl⟩
abbrev main_call3_v1 : Ref sig .tc := ⟨.hbm, 58, rfl⟩
abbrev main_call3_c_0 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_v5 : Ref sig .tc := ⟨.hbm, 63, rfl⟩
abbrev main_call3_c_1 : Ref sig .tc := ⟨.hbm, 64, rfl⟩
abbrev main_call3_c_2 : Ref sig .tc := ⟨.hbm, 65, rfl⟩
abbrev main_call3_v6 : Ref sig .tc := ⟨.hbm, 66, rfl⟩
abbrev main_call3_v7 : Ref sig .tc := ⟨.hbm, 67, rfl⟩
abbrev main_call3_v8 : Ref sig .tc := ⟨.hbm, 68, rfl⟩
abbrev main_call3_v9 : Ref sig .tc := ⟨.hbm, 69, rfl⟩
abbrev main_call3_v10 : Ref sig .tc := ⟨.hbm, 70, rfl⟩
abbrev main_call3_v11 : Ref sig .tc := ⟨.hbm, 71, rfl⟩
abbrev main_call3_c_3 : Ref sig .tc := ⟨.hbm, 72, rfl⟩
abbrev main_call3_v12 : Ref sig .tc := ⟨.hbm, 73, rfl⟩
abbrev main_call3_v13 : Ref sig .tc := ⟨.hbm, 74, rfl⟩
abbrev main_call3_cst : Ref sig .tc := ⟨.hbm, 75, rfl⟩
abbrev main_call3_v14 : Ref sig .tc := ⟨.hbm, 76, rfl⟩
abbrev main_v31 : Ref sig .tc := ⟨.hbm, 77, rfl⟩
abbrev main_call4_c : Ref sig .tc := ⟨.hbm, 78, rfl⟩
abbrev main_call4_v0 : Ref sig .tc := ⟨.hbm, 79, rfl⟩
abbrev main_call4_v1 : Ref sig .tc := ⟨.hbm, 80, rfl⟩
abbrev main_call4_c_0 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_call4_v5 : Ref sig .tc := ⟨.hbm, 85, rfl⟩
abbrev main_call4_c_1 : Ref sig .tc := ⟨.hbm, 86, rfl⟩
abbrev main_call4_c_2 : Ref sig .tc := ⟨.hbm, 87, rfl⟩
abbrev main_call4_v6 : Ref sig .tc := ⟨.hbm, 88, rfl⟩
abbrev main_call4_v7 : Ref sig .tc := ⟨.hbm, 89, rfl⟩
abbrev main_call4_v8 : Ref sig .tc := ⟨.hbm, 90, rfl⟩
abbrev main_call4_v9 : Ref sig .tc := ⟨.hbm, 91, rfl⟩
abbrev main_call4_v10 : Ref sig .tc := ⟨.hbm, 92, rfl⟩
abbrev main_call4_v11 : Ref sig .tc := ⟨.hbm, 93, rfl⟩
abbrev main_call4_c_3 : Ref sig .tc := ⟨.hbm, 94, rfl⟩
abbrev main_call4_v12 : Ref sig .tc := ⟨.hbm, 95, rfl⟩
abbrev main_call4_v13 : Ref sig .tc := ⟨.hbm, 96, rfl⟩
abbrev main_call4_cst : Ref sig .tc := ⟨.hbm, 97, rfl⟩
abbrev main_call4_v14 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩

abbrev nD : Nat := 1
abbrev τ : Topo := Topo.v7x

variable {F : FTy → Type} [FloatOps F]
-- ==== Proof.Scalar.lean ====
module

public import Idealize.ShloMosaic.Lib.Pointwise

@[expose] public section

set_option maxRecDepth 16384

noncomputable section

namespace Cert.Scalar

open Idealize.ShloMosaic

/-! # The mathematics of one spline cell, over the extended reals

A cell has 64 weights, each positive and possibly `⊤`, and a position `64 · x` in `[0, 64)`. Two spellings of
the cumulative value and of the slope at the position are given, and shown equal. -/

/-- The literal `64.0` is the real number 64. -/
theorem lit64 : Ideal.ofBits .f32 0x42800000#32 = ((64 : ℝ) : EReal) := by
  simp only [Ideal.ofBits, Ideal.ieee]
  simp [-EReal.coe_mul]
  norm_num

/-- The larger of two reals, taken in the extended reals. -/
theorem coe_max (a b : ℝ) : ((max a b : ℝ) : EReal) = max (a : EReal) (b : EReal) :=
  EReal.coe_strictMono.monotone.map_max

/-- The smaller of two reals, taken in the extended reals. -/
theorem coe_min (a b : ℝ) : ((min a b : ℝ) : EReal) = min (a : EReal) (b : EReal) :=
  EReal.coe_strictMono.monotone.map_min

/-- A finite sum of reals, taken in the extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The softplus of an extended real: `max l 0 + log (1 + exp (-|l|))`. -/
def softplus (l : EReal) : EReal := max l 0 + Ideal.log1p (Ideal.exp (-(max l (-l))))

/-- Softplus is positive away from `⊥`. -/
theorem softplus_pos (l : EReal) (h : l ≠ ⊥) : 0 < softplus l := by
  unfold softplus
  induction l with
  | bot => exact absurd rfl h
  | top => simp [Ideal.log1p, ← EReal.coe_one]
  | coe r =>
    have e : -(max (r : EReal) (-(r : EReal))) = ((-(max r (-r)) : ℝ) : EReal) := by
      rw [EReal.coe_neg, coe_max, EReal.coe_neg]
    have hpos : 0 < Real.exp (-(max r (-r))) := Real.exp_pos _
    rw [e, Ideal.exp_coe, Ideal.log1p, ← EReal.coe_one, ← EReal.coe_add, Ideal.log_coe, if_neg (by linarith),
      ← EReal.coe_zero, ← coe_max, ← EReal.coe_add, EReal.coe_lt_coe_iff]
    have : 0 < Real.log (1 + Real.exp (-(max r (-r)))) := Real.log_pos (by linarith)
    have := le_max_right r 0
    linarith

/-- The hyperbolic tangent of any extended real is a real. -/
theorem tanh_real (x : EReal) : ∃ r : ℝ, Ideal.tanh x = (r : EReal) := by
  induction x with
  | bot => exact ⟨-1, by simp⟩
  | top => exact ⟨1, by simp⟩
  | coe r => exact ⟨_, rfl⟩

/-- A sum of products of reals with reals, plus a term other than `⊥`, is not `⊥`. -/
theorem affine_ne_bot {ι : Type} [Fintype ι] (h w : ι → EReal) (b : EReal) (hh : ∀ i, ∃ r : ℝ, h i = (r : EReal))
    (hw : ∀ i, ∃ r : ℝ, w i = (r : EReal)) (hb : b ≠ ⊥) : ∑ i, h i * w i + b ≠ ⊥ := by
  choose f hf using hh
  choose g hg using hw
  have : ∑ i, h i * w i = ((∑ i, f i * g i : ℝ) : EReal) := by
    rw [coe_sum]; exact Finset.sum_congr rfl fun i _ => by rw [hf, hg, EReal.coe_mul]
  rw [this]
  intro h0
  rcases EReal.add_eq_bot_iff.1 h0 with h1 | h1
  · exact EReal.coe_ne_bot _ h1
  · exact hb h1

/-- The total of a cell's weights. -/
def total (q : Fin 64 → EReal) : EReal := ∑ k, q k

/-- The square of the reciprocal square root of the total. -/
def recip (q : Fin 64 → EReal) : EReal := Ideal.rsqrt (total q) * Ideal.rsqrt (total q)

/-- The position's whole part. -/
def whole (u : EReal) : EReal := Ideal.liftRound Int.floor u

/-- The cumulative value as a clipped ramp: `(∑ q k · clip (⌊u⌋ + (u - ⌊u⌋) - k)) · recip`. -/
def rampValue (q : Fin 64 → EReal) (u : EReal) : EReal :=
  (∑ k : Fin 64, q k * min 1 (max 0 (whole u + (u - whole u) - ((k.val : ℝ) : EReal)))) * recip q

/-- The slope as an indicator sum: `(∑ q k · [⌊u⌋ = k]) · (recip · 64)`. -/
def rampSlope (q : Fin 64 → EReal) (u : EReal) : EReal :=
  (∑ k : Fin 64, q k * (if whole u = ((k.val : ℝ) : EReal) then 1 else 0)) * (recip q * ((64 : ℝ) : EReal))

/-- The sum of the weights up to and including the `k`-th. -/
def upTo (q : Fin 64 → EReal) (k : Fin 64) : EReal := ∑ i : Fin 64, if i.val ≤ k.val then q i else 0

/-- The sum up to the last weight is the total. -/
theorem upTo_last (q : Fin 64 → EReal) : upTo q 63 = total q :=
  Finset.sum_congr rfl fun i _ => if_pos (by have := i.isLt; show i.val ≤ 63; omega)

/-- The slope read at a cell: `q b / (total / 64)`. -/
def cellSlope (q : Fin 64 → EReal) (b : Fin 64) : EReal := Ideal.div (q b) (Ideal.div (total q) ((64 : ℝ) : EReal))

/-- The share of the weights before cell `b`: `0` at the first cell. -/
def before (q : Fin 64 → EReal) (b : Fin 64) : EReal :=
  if h : b.val < 1 then 0 else Ideal.div (upTo q ⟨b.val - 1, by omega⟩) (total q)

/-- The cumulative value read at a cell: slope times the fraction over 64, plus the share before it. -/
def cellValue (q : Fin 64 → EReal) (u : EReal) (b : Fin 64) : EReal :=
  cellSlope q b * Ideal.div (u - whole u) ((64 : ℝ) : EReal) + before q b

/-- Positive weights are all real, or their total is `⊤`. -/
theorem real_or_top (q : Fin 64 → EReal) (hq : ∀ k, 0 < q k) :
    (∃ p : Fin 64 → ℝ, (∀ k, 0 < p k) ∧ ∀ k, q k = (p k : EReal)) ∨ total q = ⊤ := by
  by_cases h : ∃ k, q k = ⊤
  · obtain ⟨k, hk⟩ := h
    right
    refine top_le_iff.1 ?_
    rw [← hk]
    exact Finset.single_le_sum (f := q) (fun i _ => (hq i).le) (Finset.mem_univ k)
  · left
    push Not at h
    refine ⟨fun k => (q k).toReal, fun k => EReal.toReal_pos (hq k) (h k), fun k => ?_⟩
    exact (EReal.coe_toReal (h k) (ne_bot_of_gt (hq k))).symm

/-- With total `⊤`, the two cumulative values and the two slopes are all zero. -/
theorem top_case (q : Fin 64 → EReal) (u : EReal) (b : Fin 64) (h : total q = ⊤) :
    rampValue q u = 0 ∧ rampSlope q u = 0 ∧ cellValue q u b = 0 ∧ cellSlope q b = 0 := by
  have hr : recip q = 0 := by rw [recip, h, Ideal.rsqrt_top, mul_zero]
  have hd : Ideal.div (⊤ : EReal) ((64 : ℝ) : EReal) = ⊤ := by
    rw [Ideal.div_coe (by norm_num)]
    exact EReal.top_mul_coe_of_pos (by norm_num)
  have hx : ∀ x : EReal, Ideal.div x ⊤ = 0 := fun x => by
    rw [Ideal.div, if_neg EReal.top_ne_zero, EReal.inv_top, mul_zero]
  have hs : cellSlope q b = 0 := by rw [cellSlope, h, hd, hx]
  refine ⟨by rw [rampValue, hr, mul_zero], by rw [rampSlope, hr, zero_mul, mul_zero], ?_, hs⟩
  rw [cellValue, hs, zero_mul, zero_add, before]
  split
  · rfl
  · rw [h, hx]

/-- Over the reals, the clipped ramp weights sum the cells before `b` and the fraction of cell `b`. -/
theorem ramp_real (p : Fin 64 → ℝ) (x : ℝ) (b : Fin 64) (hb : ⌊x⌋ = (b.val : ℤ)) :
    ∑ k : Fin 64, p k * min 1 (max 0 (x - (k.val : ℝ)))
      = (∑ k : Fin 64, if k.val < b.val then p k else 0) + p b * (x - (b.val : ℝ)) := by
  have h1 : (b.val : ℝ) ≤ x := by have := Int.floor_le x; rw [hb] at this; exact_mod_cast this
  have h2 : x < (b.val : ℝ) + 1 := by have := Int.lt_floor_add_one x; rw [hb] at this; exact_mod_cast this
  have e : p b * (x - (b.val : ℝ)) = ∑ k : Fin 64, if k = b then p k * (x - (k.val : ℝ)) else 0 := by
    rw [Finset.sum_ite_eq' Finset.univ b, if_pos (Finset.mem_univ b)]
  rw [e, ← Finset.sum_add_distrib]
  refine Finset.sum_congr rfl fun k _ => ?_
  rcases lt_trichotomy k.val b.val with hk | hk | hk
  · have : (k.val : ℝ) + 1 ≤ b.val := by exact_mod_cast hk
    rw [if_pos hk, if_neg (by rintro rfl; exact lt_irrefl _ hk), max_eq_right (by linarith), min_eq_left (by linarith)]
    ring
  · obtain rfl : k = b := Fin.ext hk
    rw [if_neg (lt_irrefl _), if_pos rfl, max_eq_right (by linarith), min_eq_right (by linarith), zero_add]
  · have : (b.val : ℝ) + 1 ≤ k.val := by exact_mod_cast hk
    rw [if_neg (by omega), if_neg (by rintro rfl; exact lt_irrefl _ hk), max_eq_left (by linarith), min_eq_right (by norm_num)]
    ring

/-- With real weights, the clipped-ramp spelling and the cell spelling agree, and the slope is a nonnegative real. -/
theorem real_case (p : Fin 64 → ℝ) (hp : ∀ k, 0 < p k) (x : ℝ) (b : Fin 64) (hb : ⌊x⌋ = (b.val : ℤ)) :
    rampValue (fun k => (p k : EReal)) (x : EReal) = cellValue (fun k => (p k : EReal)) (x : EReal) b
      ∧ rampSlope (fun k => (p k : EReal)) (x : EReal) = cellSlope (fun k => (p k : EReal)) b
      ∧ ∃ r : ℝ, 0 ≤ r ∧ cellSlope (fun k => (p k : EReal)) b = (r : EReal) := by
  set S : ℝ := ∑ k, p k with hS
  have hSpos : 0 < S := Finset.sum_pos (fun k _ => hp k) ⟨0, Finset.mem_univ _⟩
  have ht : total (fun k => (p k : EReal)) = (S : EReal) := (coe_sum _ _).symm
  have hr : recip (fun k => (p k : EReal)) = ((1 / S : ℝ) : EReal) := by
    rw [recip, ht, Ideal.rsqrt_coe, if_neg hSpos.not_gt, if_neg hSpos.ne', ← EReal.coe_mul, ← mul_inv,
      Real.mul_self_sqrt hSpos.le, one_div]
  have hw : whole (x : EReal) = ((b.val : ℝ) : EReal) := by
    show (((⌊x⌋ : ℤ) : ℝ) : EReal) = _
    rw [hb]; norm_cast
  have hslope : cellSlope (fun k => (p k : EReal)) b = ((p b * (64 / S) : ℝ) : EReal) := by
    rw [cellSlope, ht, Ideal.div_coe (by norm_num), ← EReal.coe_mul, Ideal.div_coe (by positivity), ← EReal.coe_mul]
    congr 1
    field_simp
  have hfrac : Ideal.div ((x : EReal) - whole (x : EReal)) ((64 : ℝ) : EReal) = (((x - (b.val : ℝ)) * (1 / 64) : ℝ) : EReal) := by
    rw [hw, ← EReal.coe_sub, Ideal.div_coe (by norm_num), ← EReal.coe_mul]
  have hbefore : before (fun k => (p k : EReal)) b
      = (((∑ k : Fin 64, if k.val < b.val then p k else 0) * (1 / S) : ℝ) : EReal) := by
    rw [before]
    split
    · next h0 =>
      rw [Finset.sum_eq_zero fun k _ => if_neg (by omega), zero_mul, EReal.coe_zero]
    · next h0 =>
      rw [ht, Ideal.div_coe hSpos.ne', EReal.coe_mul, coe_sum]
      refine Ideal.mul_congr (Finset.sum_congr rfl fun k _ => ?_) rfl
      dsimp only
      by_cases hk : k.val < b.val
      · rw [if_pos (by omega), if_pos hk]
      · rw [if_neg (by omega), if_neg hk, EReal.coe_zero]
  refine ⟨?_, ?_, ⟨_, mul_nonneg (hp b).le (by positivity), hslope⟩⟩
  · rw [cellValue, hslope, hfrac, hbefore, rampValue, hr, ← EReal.coe_mul, ← EReal.coe_add]
    have : ∑ k : Fin 64, (p k : EReal) * min 1 (max 0 (whole (x : EReal) + ((x : EReal) - whole (x : EReal)) - ((k.val : ℝ) : EReal)))
        = ((∑ k : Fin 64, p k * min 1 (max 0 (x - (k.val : ℝ))) : ℝ) : EReal) := by
      rw [coe_sum]
      refine Finset.sum_congr rfl fun k _ => ?_
      rw [hw, ← EReal.coe_sub, ← EReal.coe_add, ← EReal.coe_sub, EReal.coe_mul]
      refine Ideal.mul_congr rfl ?_
      have : x - (k.val : ℝ) = (b.val : ℝ) + (x - (b.val : ℝ)) - (k.val : ℝ) := by ring
      rw [this, coe_min, coe_max, EReal.coe_one, EReal.coe_zero]
    rw [this, ramp_real p x b hb, ← EReal.coe_mul]
    congr 1
    field_simp
    ring
  · rw [hslope, rampSlope, hr, hw]
    have : ∑ k : Fin 64, (p k : EReal) * (if ((b.val : ℝ) : EReal) = ((k.val : ℝ) : EReal) then 1 else 0) = (p b : EReal) := by
      rw [Finset.sum_eq_single b]
      · rw [if_pos rfl, mul_one]
      · intro k _ hk
        rw [if_neg, mul_zero]
        intro h
        exact hk (Fin.ext (by exact_mod_cast (EReal.coe_injective h).symm))
      · intro h; exact absurd (Finset.mem_univ b) h
    rw [this, ← EReal.coe_mul, ← EReal.coe_mul]
    congr 1
    ring

/-- THE CELL EQUATION: for positive weights and a position in cell `b`, the two spellings agree, and the slope is a
    nonnegative real. -/
theorem cell_eq (q : Fin 64 → EReal) (hq : ∀ k, 0 < q k) (x : ℝ) (b : Fin 64) (hb : ⌊x⌋ = (b.val : ℤ)) :
    rampValue q (x : EReal) = cellValue q (x : EReal) b ∧ rampSlope q (x : EReal) = cellSlope q b
      ∧ ∃ r : ℝ, 0 ≤ r ∧ cellSlope q b = (r : EReal) := by
  rcases real_or_top q hq with ⟨p, hp, hpq⟩ | ht
  · obtain rfl : q = fun k => (p k : EReal) := funext hpq
    exact real_case p hp x b hb
  · obtain ⟨h1, h2, h3, h4⟩ := top_case q (x : EReal) b ht
    exact ⟨h1.trans h3.symm, h2.trans h4.symm, 0, le_refl _, h4.trans EReal.coe_zero.symm⟩

/-- The exponential of a logarithm of a nonnegative real, times the exponential of anything below `⊤`. -/
theorem exp_add_log (y : EReal) (hy : y ≠ ⊤) (r : ℝ) (hr : 0 ≤ r) :
    Ideal.exp (y + Ideal.log (r : EReal)) = Ideal.exp y * (r : EReal) := by
  rw [Ideal.log_coe]
  split
  · next h =>
    obtain rfl : r = 0 := le_antisymm h hr
    rw [EReal.add_bot, Ideal.exp_bot, EReal.coe_zero, mul_zero]
  · next h =>
    induction y with
    | top => exact absurd rfl hy
    | bot => rw [EReal.bot_add, Ideal.exp_bot, zero_mul]
    | coe y =>
      rw [← EReal.coe_add, Ideal.exp_coe, Ideal.exp_coe, ← EReal.coe_mul, Real.exp_add, Real.exp_log (not_le.1 h)]

/-- The exponential of a sum of logarithms of nonnegative reals is their product, and the sum is below `⊤`. -/
theorem exp_sum_log {n : ℕ} (r : Fin n → ℝ) (hr : ∀ i, 0 ≤ r i) :
    Ideal.exp (∑ i, Ideal.log (r i : EReal)) = ∏ i, (r i : EReal) ∧ ∑ i, Ideal.log (r i : EReal) ≠ ⊤ := by
  induction n with
  | zero => simp [← EReal.coe_zero]
  | succ n ih =>
    obtain ⟨h1, h2⟩ := ih (fun i => r i.castSucc) (fun i => hr _)
    rw [Fin.sum_univ_castSucc, Fin.prod_univ_castSucc, exp_add_log _ h2 _ (hr _), h1]
    refine ⟨rfl, ?_⟩
    rw [Ideal.log_coe]
    intro h
    split at h
    · rw [EReal.add_bot] at h; exact absurd h (by simp)
    · exact EReal.add_ne_top h2 (EReal.coe_ne_top _) h

end Cert.Scalar

end
-- ==== Proof.Spec.lean ====
module

public import proofs.«01_k».proof.Proof.Scalar

@[expose] public section

set_option maxRecDepth 16384

noncomputable section

namespace Cert.Spec

open Idealize.ShloMosaic Cert.Scalar

/-! # The weights the network gives a row, and the sums over 512 lanes in blocks of 64 -/

/-- The hidden unit `k` of a row `x`: `tanh (x · w1 + b1)`. -/
def hidden (x : Fin 8 → EReal) (w1 : Fin 8 → Fin 128 → EReal) (b1 : Fin 128 → EReal) (k : Fin 128) : EReal :=
  Ideal.tanh (∑ p, x p * w1 p k + b1 k)

/-- The weight in lane `j` of a row `x`: the softplus of the second layer. -/
def weight (x : Fin 8 → EReal) (w1 : Fin 8 → Fin 128 → EReal) (b1 : Fin 128 → EReal) (w2 : Fin 128 → Fin 512 → EReal)
    (b2 : Fin 512 → EReal) (j : Fin 512) : EReal :=
  softplus (∑ k, hidden x w1 b1 k * w2 k j + b2 j)

/-- Lane `k` of block `t`. -/
def lane (t : Fin 8) (k : Fin 64) : Fin 512 := ⟨t.val * 64 + k.val, by omega⟩

/-- The weights are positive when the second layer's matrix is real and its bias is never `⊥`. -/
theorem weight_pos (x : Fin 8 → EReal) (w1 : Fin 8 → Fin 128 → EReal) (b1 : Fin 128 → EReal) (w2 : Fin 128 → Fin 512 → EReal)
    (b2 : Fin 512 → EReal) (j : Fin 512) (hw : ∀ k, ∃ r : ℝ, w2 k j = (r : EReal)) (hb : b2 j ≠ ⊥) :
    0 < weight x w1 b1 w2 b2 j :=
  softplus_pos _ (affine_ne_bot _ _ _ (fun _ => tanh_real _) hw hb)

/-- The first eight entries of a row. -/
def head8 (x : Fin 17 → EReal) (p : Fin 8) : EReal := x ⟨p.val, by omega⟩

/-- Column `8 + t` of a row. -/
def midCol (t : Fin 8) : Fin 17 := ⟨8 + t.val, by omega⟩

/-- The last column of a row. -/
def lastCol : Fin 17 := ⟨16, by omega⟩

/-- A column is one of the first eight, one of the next eight, or the last. -/
theorem col_cases (c : Fin 17) : c.val < 8 ∨ (∃ t, c = midCol t) ∨ c = lastCol := by
  by_cases h8 : c.val < 8
  · exact Or.inl h8
  by_cases h16 : c.val < 16
  · exact Or.inr (Or.inl ⟨⟨c.val - 8, by omega⟩, Fin.ext (by show c.val = 8 + (c.val - 8); omega)⟩)
  · exact Or.inr (Or.inr (Fin.ext (by show c.val = 16; omega)))

/-- The 64 weights a row gives its block `t`. -/
def rowCell (x : Fin 17 → EReal) (w1 : Fin 8 → Fin 128 → EReal) (b1 : Fin 128 → EReal) (w2 : Fin 128 → Fin 512 → EReal)
    (b2 : Fin 512 → EReal) (t : Fin 8) (k : Fin 64) : EReal :=
  weight (head8 x) w1 b1 w2 b2 (lane t k)

/-- A row's position in its block `t`: 64 times its entry `8 + t`. -/
def rowPos (x : Fin 17 → EReal) (t : Fin 8) : EReal := x (midCol t) * ((64 : ℝ) : EReal)

/-- The result row in the clipped-ramp spelling. -/
def rampRow (x : Fin 17 → EReal) (w1 : Fin 8 → Fin 128 → EReal) (b1 : Fin 128 → EReal) (w2 : Fin 128 → Fin 512 → EReal)
    (b2 : Fin 512 → EReal) (c : Fin 17) : EReal :=
  if c.val < 8 then x c
  else if h : c.val < 16 then
    rampValue (rowCell x w1 b1 w2 b2 ⟨c.val - 8, by omega⟩) (rowPos x ⟨c.val - 8, by omega⟩)
  else x lastCol * Ideal.exp (∑ t : Fin 8, Ideal.log (rampSlope (rowCell x w1 b1 w2 b2 t) (rowPos x t)))

/-- The result row in the cell spelling, `b t` being the cell the position in block `t` lies in. -/
def cellRow (x : Fin 17 → EReal) (w1 : Fin 8 → Fin 128 → EReal) (b1 : Fin 128 → EReal) (w2 : Fin 128 → Fin 512 → EReal)
    (b2 : Fin 512 → EReal) (b : Fin 8 → Fin 64) (c : Fin 17) : EReal :=
  if c.val < 8 then x c
  else if h : c.val < 16 then
    cellValue (rowCell x w1 b1 w2 b2 ⟨c.val - 8, by omega⟩) (rowPos x ⟨c.val - 8, by omega⟩) (b ⟨c.val - 8, by omega⟩)
  else x lastCol * ∏ t : Fin 8, cellSlope (rowCell x w1 b1 w2 b2 t) (b t)

/-- The cell spelling in column `8 + t`. -/
theorem cellRow_mid (x : Fin 17 → EReal) (w1 : Fin 8 → Fin 128 → EReal) (b1 : Fin 128 → EReal) (w2 : Fin 128 → Fin 512 → EReal)
    (b2 : Fin 512 → EReal) (b : Fin 8 → Fin 64) (t : Fin 8) :
    cellRow x w1 b1 w2 b2 b (midCol t) = cellValue (rowCell x w1 b1 w2 b2 t) (rowPos x t) (b t) := by
  have e : ∀ h, (⟨(midCol t).val - 8, h⟩ : Fin 8) = t := fun _ => Fin.ext (by show 8 + t.val - 8 = t.val; omega)
  unfold cellRow
  rw [if_neg (by show ¬ 8 + t.val < 8; omega), dif_pos (by show 8 + t.val < 16; omega), e]

/-- The clipped-ramp spelling in column `8 + t`. -/
theorem rampRow_mid (x : Fin 17 → EReal) (w1 : Fin 8 → Fin 128 → EReal) (b1 : Fin 128 → EReal) (w2 : Fin 128 → Fin 512 → EReal)
    (b2 : Fin 512 → EReal) (t : Fin 8) :
    rampRow x w1 b1 w2 b2 (midCol t) = rampValue (rowCell x w1 b1 w2 b2 t) (rowPos x t) := by
  have e : ∀ h, (⟨(midCol t).val - 8, h⟩ : Fin 8) = t := fun _ => Fin.ext (by show 8 + t.val - 8 = t.val; omega)
  unfold rampRow
  rw [if_neg (by show ¬ 8 + t.val < 8; omega), dif_pos (by show 8 + t.val < 16; omega), e]

/-- THE ROW EQUATION: with a real second-layer matrix, a second-layer bias never `⊥`, and each position a real in its
    cell, the two spellings of a row agree. -/
theorem row_eq (x : Fin 17 → EReal) (w1 : Fin 8 → Fin 128 → EReal) (b1 : Fin 128 → EReal) (w2 : Fin 128 → Fin 512 → EReal)
    (b2 : Fin 512 → EReal) (b : Fin 8 → Fin 64) (hw : ∀ k j, ∃ r : ℝ, w2 k j = (r : EReal)) (hb : ∀ j, b2 j ≠ ⊥)
    (hx : ∀ t, ∃ u : ℝ, rowPos x t = (u : EReal) ∧ ⌊u⌋ = ((b t).val : ℤ)) (c : Fin 17) :
    rampRow x w1 b1 w2 b2 c = cellRow x w1 b1 w2 b2 b c := by
  have hcell : ∀ t, rampValue (rowCell x w1 b1 w2 b2 t) (rowPos x t) = cellValue (rowCell x w1 b1 w2 b2 t) (rowPos x t) (b t)
      ∧ rampSlope (rowCell x w1 b1 w2 b2 t) (rowPos x t) = cellSlope (rowCell x w1 b1 w2 b2 t) (b t)
      ∧ ∃ r : ℝ, 0 ≤ r ∧ cellSlope (rowCell x w1 b1 w2 b2 t) (b t) = (r : EReal) := fun t => by
    obtain ⟨u, hu, hf⟩ := hx t
    rw [hu]
    exact cell_eq _ (fun k => weight_pos _ _ _ _ _ _ (fun k => hw k _) (hb _)) u (b t) hf
  unfold rampRow cellRow
  split
  · rfl
  split
  · exact (hcell _).1
  · choose r hr hs using fun t => (hcell t).2.2
    refine congrArg (x lastCol * ·) ?_
    simp only [fun t => (hcell t).2.1, hs]
    exact (exp_sum_log r hr).1

/-- A sum over the eight blocks against the indicator of one block picks that block. -/
theorem sum_pick (g : Fin 8 → EReal) (n : ℕ) (hn : n < 8) : ∑ t : Fin 8, g t * (if n = t.val then 1 else 0) = g ⟨n, hn⟩ := by
  rw [Finset.sum_eq_single (⟨n, hn⟩ : Fin 8)]
  · rw [if_pos rfl, mul_one]
  · intro t _ ht
    rw [if_neg fun h => ht (Fin.ext h.symm), mul_zero]
  · intro h; exact absurd (Finset.mem_univ _) h

/-- A sum over the 512 lanes against the indicator of block `t` is the sum over that block's 64 lanes. -/
theorem sum_block (f : Fin 512 → EReal) (t : Fin 8) :
    ∑ j : Fin 512, f j * (if j.val / 64 = t.val then 1 else 0) = ∑ k : Fin 64, f (lane t k) := by
  rw [Fin.sum_univ_tiles 8 64 rfl, Finset.sum_eq_single t]
  · refine Finset.sum_congr rfl fun k _ => ?_
    rw [if_pos (by show (t.val * 64 + k.val) / 64 = t.val; omega), mul_one]
    rfl
  · intro s _ hs
    refine Finset.sum_eq_zero fun k _ => ?_
    rw [if_neg, mul_zero]
    show ¬ (s.val * 64 + k.val) / 64 = t.val
    intro h
    exact hs (Fin.ext (by omega))
  · intro h; exact absurd (Finset.mem_univ _) h

end Cert.Spec

end
-- ==== Proof.BlockValue.lean ====
module

public import Idealize.ShloMosaic.Lib.Pointwise
public import proofs.«01_k».proof.Proof.Gen.KernelIdeal.Skeleton
public import proofs.«01_k».proof.Proof.Spec

@[expose] public section

set_option maxRecDepth 16384

noncomputable section

namespace Cert.KernelIdeal.Block

open Idealize.ShloMosaic Idealize.ShloMosaic.TcCoe Idealize.SL.Sem
open Cert.KernelIdeal Cert.KernelIdeal.Gen Cert.Scalar Cert.Spec

/-! # What one block of 2048 rows computes, element by element -/

/-- The weights of a block's row `r`, lane `j`: the softplus network on the row's first eight columns. -/
theorem weights_at (x0 : FVec Ideal S2048x17 .f32) (w1 : FVec Ideal S8x128 .f32) (b1 : FVec Ideal S1x128 .f32)
    (w2 : FVec Ideal S128x512 .f32) (b2 : FVec Ideal S1x512 .f32) (r : Fin 2048) (j : Fin 512) :
    k0_pay5 (F := Ideal) x0 w1 b1 w2 b2 (ix2 r j)
      = weight (fun p => x0 (ix2 r ⟨p.val, by omega⟩)) (fun p k => w1 (ix2 p k)) (fun k => b1 (ix2 0 k))
          (fun k j => w2 (ix2 k j)) (fun j => b2 (ix2 0 j)) j := by
  pointwise [k0_pay5, k0_pay2]
  rw [if_neg (not_not_intro rfl), zero_sub]
  rfl

/-- The integer word of a small natural reads back as that natural. -/
theorem sitofp_small (n : ℕ) (hn : n < 512) : FloatOps.sitofp (F := Ideal) .f32 (BitVec.ofNat 32 n) = ((n : ℝ) : EReal) := by
  show (((BitVec.ofNat 32 n).toInt : ℝ) : EReal) = _
  have : (BitVec.ofNat 32 n).toInt = (n : ℤ) := by
    rw [BitVec.toInt_eq_toNat_cond, BitVec.toNat_ofNat, Nat.mod_eq_of_lt (by omega), if_pos (by omega)]
  rw [this]; norm_cast

/-- The lane's number within its block. -/
theorem number_at (j : Fin 512) : k0_pay6 (F := Ideal) (ix2 0 j) = (((j.val % 64 : ℕ) : ℝ) : EReal) := by
  pointwise [k0_pay6]
  have h : IntOp.andi (BitVec.ofNat 32 j.val) 63#32 = BitVec.ofNat 32 (j.val % 64) := by
    revert j; decide +kernel
  rw [h, sitofp_small _ (by omega)]

/-- The indicator of block `t` at lane `j`. -/
theorem member_at (t : Fin 8) (j : Fin 512) :
    k0_pay7 (F := Ideal) (ix2 t j) = if j.val / 64 = t.val then 1 else 0 := by
  pointwise [k0_pay7]
  have h : BitVec.setWidth 32 (IntOp.cmpi CmpIPredicate.eq (BitVec.ofNat 32 t.val)
      (IntOp.shrsi ArithUnit.vector (BitVec.ofNat 32 j.val) 6#32)) = BitVec.ofNat 32 (if j.val / 64 = t.val then 1 else 0) := by
    revert t j; decide +kernel
  rw [h, sitofp_small _ (by split <;> omega)]
  split <;> simp

/-- Column `8 + t` of a block's row: the clipped-ramp value of the row's block `t` of weights at `64` times the
    row's column `8 + t`. -/
theorem value_at (v1 v2 : FVec Ideal S2048x8 .f32) (v3 : FVec Ideal S2048x1 .f32) (q : FVec Ideal S2048x512 .f32)
    (kf : FVec Ideal S1x512 .f32) (bm : FVec Ideal S8x512 .f32) (c : Ideal .f32)
    (hkf : ∀ j : Fin 512, kf (ix2 0 j) = (((j.val % 64 : ℕ) : ℝ) : EReal))
    (hbm : ∀ (t : Fin 8) (j : Fin 512), bm (ix2 t j) = if j.val / 64 = t.val then 1 else 0) (r : Fin 2048) (t : Fin 8) :
    k0_pay1 (F := Ideal) v1 v2 v3 q kf bm c (ix2 r ⟨8 + t.val, by omega⟩)
      = rampValue (fun k => q (ix2 r (lane t k))) (v2 (ix2 r t) * c) := by
  pointwise [k0_pay1]
  have hdiv : ∀ j : Fin 512, j.val / 64 < 8 := fun j => by omega
  simp only [hbm, hkf, sum_block]
  simp only [fun (g : Fin 8 → EReal) (k : Fin 64) => sum_pick g ((lane t k).val / 64) (hdiv _)]
  have e1 : ∀ k, (⟨(lane t k).val / 64, hdiv _⟩ : Fin 8) = t := fun k => Fin.ext (by show (t.val * 64 + k.val) / 64 = t.val; omega)
  have e2 : ∀ k, (lane t k).val % 64 = k.val := fun k => by show (t.val * 64 + k.val) % 64 = k.val; omega
  simp only [e1, e2]
  rfl

/-- The third of the pieces of widths 8, 8 and 1 is the last column. -/
theorem last_piece (a b : FVec Ideal S2048x8 .f32) (c : FVec Ideal S2048x1 .f32) (r : Fin 2048) :
    concatenate S2048x17 1 [⟨S2048x8, a⟩, ⟨S2048x8, b⟩, ⟨S2048x1, c⟩] concatenates_S2048x8_S2048x8_S2048x1_S2048x17_d1
      (ix2 r ⟨16, by omega⟩) = c (ix2 r 0) := by
  pointwise

/-- A column that multiplies another by the exponential of the row sums of logarithms. -/
theorem column_at (v3 : FVec Ideal S2048x1 .f32) (y : FVec Ideal S2048x8 .f32) (r : Fin 2048) :
    mulf v3 (exp (shapeCast S2048x1 (multiReduction .add [1] S2048 (log y) 0x00000000#32 reduces_S2048x8_S2048 (.inl rfl) rfl)
      shapeCasts_S2048_S2048x1)) (ix2 r 0) = v3 (ix2 r 0) * Ideal.exp (∑ t : Fin 8, Ideal.log (y (ix2 r t))) := by
  pointwise

/-- The third of three blocks of 2048 rows stacked along the rows. -/
theorem third_block (a b c : FVec Ideal S2048x512 .f32) (r : Fin 2048) (j : Fin 512) :
    concatenate S6144x512 0 [⟨S2048x512, a⟩, ⟨S2048x512, b⟩, ⟨S2048x512, c⟩]
      concatenates_S2048x512_S2048x512_S2048x512_S6144x512_d0 (ix2 ⟨4096 + r.val, by omega⟩ j) = c (ix2 r j) := by
  pointwise
  rw [dif_neg (by omega), dif_neg (by omega)]
  exact congrArg (fun i => c (ix2 i j)) (Fin.ext (by show 4096 + r.val - 2048 - 2048 = r.val; omega))

/-- The third block of rows of a product of 6144 rows of 512 lanes with the block indicators. -/
theorem third_product (x : FVec Ideal S6144x512 .f32) (bm : FVec Ideal S8x512 .f32) (r : Fin 2048) (t : Fin 8) :
    extractStridedSlice S2048x8 ![4096, 0] (matmul dot_S6144x512_S8x512_S6144x8_1_1_0_0_n_n none x bm
        (constant S6144x8 .f32 0x00000000#32)) slices_S6144x8_o4096_0_S2048x8 (ix2 r t)
      = ∑ j : Fin 512, x (ix2 ⟨4096 + r.val, by omega⟩ j) * bm (ix2 t j) := by
  pointwise

/-- A truth value's word reads back as 1 or 0. -/
theorem indicator (P : Prop) [Decidable P] :
    FloatOps.sitofp (F := Ideal) .f32 (BitVec.setWidth 32 (BitVec.ofBool (decide P))) = if P then 1 else 0 := by
  have h : BitVec.setWidth 32 (BitVec.ofBool (decide P)) = BitVec.ofNat 32 (if P then 1 else 0) := by
    by_cases hP : P <;> simp [hP]
  rw [h, sitofp_small _ (by split <;> omega)]
  split <;> simp

/-- An elementwise product at an index. -/
theorem product_at (a b : FVec Ideal S2048x8 .f32) (i : S2048x8.Idx) : mulf a b i = a i * b i := rfl

/-- The slopes of a block: a `[2048, 8]` array `y` of them is what the last column is computed from. -/
theorem slopes_at (v1 v2 : FVec Ideal S2048x8 .f32) (v3 : FVec Ideal S2048x1 .f32) (q : FVec Ideal S2048x512 .f32)
    (kf : FVec Ideal S1x512 .f32) (bm : FVec Ideal S8x512 .f32) (c : Ideal .f32)
    (hkf : ∀ j : Fin 512, kf (ix2 0 j) = (((j.val % 64 : ℕ) : ℝ) : EReal))
    (hbm : ∀ (t : Fin 8) (j : Fin 512), bm (ix2 t j) = if j.val / 64 = t.val then 1 else 0) :
    ∃ z y : FVec Ideal S2048x8 .f32,
      k0_pay1 (F := Ideal) v1 v2 v3 q kf bm c
        = concatenate S2048x17 1 [⟨S2048x8, v1⟩, ⟨S2048x8, z⟩, ⟨S2048x1, mulf v3 (exp (shapeCast S2048x1
            (multiReduction .add [1] S2048 (log y) 0x00000000#32 reduces_S2048x8_S2048 (.inl rfl) rfl) shapeCasts_S2048_S2048x1))⟩]
            concatenates_S2048x8_S2048x8_S2048x1_S2048x17_d1
      ∧ ∀ (r : Fin 2048) (t : Fin 8), y (ix2 r t) = rampSlope (fun k => q (ix2 r (lane t k))) (v2 (ix2 r t) * c) := by
  refine ⟨_, _, by unfold k0_pay1; exact rfl, fun r t => ?_⟩
  rw [product_at, third_product]
  simp only [third_block]
  pointwise
  have hdiv : ∀ j : Fin 512, j.val / 64 < 8 := fun j => by omega
  simp only [hbm, hkf, sum_block]
  simp only [fun (g : Fin 8 → EReal) (k : Fin 64) => sum_pick g ((lane t k).val / 64) (hdiv _)]
  have e1 : ∀ k, (⟨(lane t k).val / 64, hdiv _⟩ : Fin 8) = t := fun k => Fin.ext (by show (t.val * 64 + k.val) / 64 = t.val; omega)
  have e2 : ∀ k, (lane t k).val % 64 = k.val := fun k => by show (t.val * 64 + k.val) % 64 = k.val; omega
  simp only [e1, e2]
  simp only [indicator, lit64]
  rfl

/-- The last column of a block's row: the row's last column times the exponential of the sum of the logarithms of its
    eight slopes. -/
theorem last_at (v1 v2 : FVec Ideal S2048x8 .f32) (v3 : FVec Ideal S2048x1 .f32) (q : FVec Ideal S2048x512 .f32)
    (kf : FVec Ideal S1x512 .f32) (bm : FVec Ideal S8x512 .f32) (c : Ideal .f32)
    (hkf : ∀ j : Fin 512, kf (ix2 0 j) = (((j.val % 64 : ℕ) : ℝ) : EReal))
    (hbm : ∀ (t : Fin 8) (j : Fin 512), bm (ix2 t j) = if j.val / 64 = t.val then 1 else 0) (r : Fin 2048) :
    k0_pay1 (F := Ideal) v1 v2 v3 q kf bm c (ix2 r ⟨16, by omega⟩)
      = v3 (ix2 r 0) * Ideal.exp (∑ t : Fin 8, Ideal.log (rampSlope (fun k => q (ix2 r (lane t k))) (v2 (ix2 r t) * c))) := by
  obtain ⟨z, y, h, hy⟩ := slopes_at v1 v2 v3 q kf bm c hkf hbm
  rw [h, last_piece, column_at]
  simp only [hy]

/-- The first eight columns of a block's row are the row's. -/
theorem first_at (v1 v2 : FVec Ideal S2048x8 .f32) (v3 : FVec Ideal S2048x1 .f32) (q : FVec Ideal S2048x512 .f32)
    (kf : FVec Ideal S1x512 .f32) (bm : FVec Ideal S8x512 .f32) (c : Ideal .f32) (r : Fin 2048) (p : Fin 8) :
    k0_pay1 (F := Ideal) v1 v2 v3 q kf bm c (ix2 r ⟨p.val, by omega⟩) = v1 (ix2 r p) := by
  pointwise [k0_pay1]

/-- WHAT A BLOCK COMPUTES: row `r`, column `c` of what is stored is the row's clipped-ramp result. -/
theorem block_at (x0 : FVec Ideal S2048x17 .f32) (w1 : FVec Ideal S8x128 .f32) (b1 : FVec Ideal S1x128 .f32)
    (w2 : FVec Ideal S128x512 .f32) (b2 : FVec Ideal S1x512 .f32) (r : Fin 2048) (c : Fin 17) :
    k0_pay1 (F := Ideal) (k0_pay2 x0) (k0_pay3 x0) (k0_pay4 x0) (k0_pay5 x0 w1 b1 w2 b2) (k0_pay6 (F := Ideal))
        (k0_pay7 (F := Ideal)) (Scalar.ofBits .f32 0x42800000#32) (ix2 r c)
      = rampRow (fun c => x0 (ix2 r c)) (fun p k => w1 (ix2 p k)) (fun k => b1 (ix2 0 k)) (fun k j => w2 (ix2 k j))
          (fun j => b2 (ix2 0 j)) c := by
  have hc : (Scalar.ofBits .f32 0x42800000#32 : Ideal .f32) = ((64 : ℝ) : EReal) := lit64
  have hq : ∀ t, (fun k => k0_pay5 (F := Ideal) x0 w1 b1 w2 b2 (ix2 r (lane t k)))
      = rowCell (fun c => x0 (ix2 r c)) (fun p k => w1 (ix2 p k)) (fun k => b1 (ix2 0 k)) (fun k j => w2 (ix2 k j))
          (fun j => b2 (ix2 0 j)) t := fun t => funext fun k => weights_at x0 w1 b1 w2 b2 r (lane t k)
  have h3 : ∀ t : Fin 8, k0_pay3 (F := Ideal) x0 (ix2 r t) = x0 (ix2 r ⟨8 + t.val, by omega⟩) := fun t => by
    pointwise [k0_pay3]
  have h4 : k0_pay4 (F := Ideal) x0 (ix2 r 0) = x0 (ix2 r ⟨16, by omega⟩) := by pointwise [k0_pay4]
  rcases col_cases c with h8 | ⟨t, rfl⟩ | rfl
  · unfold rampRow
    rw [if_pos h8]
    refine (first_at _ _ _ _ _ _ _ r ⟨c.val, h8⟩).trans ?_
    pointwise [k0_pay2]
  · refine (value_at _ _ _ _ _ _ _ number_at member_at r t).trans ?_
    rw [rampRow_mid, hq, h3, hc]
    rfl
  · refine (last_at _ _ _ _ _ _ _ number_at member_at r).trans ?_
    simp only [hq, h3, h4, hc]
    rfl

end Cert.KernelIdeal.Block

end
-- ==== Proof.KernelValue.lean ====
module

public import Idealize.ShloMosaic.Lib.Pipeline.ValueKit
public import Idealize.ShloMosaic.Lib.Pointwise
public import proofs.«01_k».proof.Proof.Gen.KernelIdeal.Frame
public import proofs.«01_k».proof.Proof.Gen.KernelIdeal.Value
public import proofs.«01_k».proof.Proof.BlockValue

@[expose] public section

set_option maxRecDepth 16384

noncomputable section

namespace Cert.KernelIdeal.Array

open Idealize.ShloMosaic Idealize.ShloMosaic.TcCoe Idealize.SL.Sem
open Idealize.ShloMosaic.Pipeline (Dat)
open Cert.KernelIdeal Cert.KernelIdeal.Gen Cert.Scalar Cert.Spec

variable (m : (ℓ : Loc nD τ sig) → Buf (Elt Ideal) ℓ)

/-! # What the result array holds after the run -/

/-- The result as one function of the five arrays: row by row, the clipped-ramp spelling. -/
def result (X : FVec Ideal S65536x17 .f32) (w1 : FVec Ideal S8x128 .f32) (b1 : FVec Ideal S128 .f32)
    (w2 : FVec Ideal S128x512 .f32) (b2 : FVec Ideal S512 .f32) : FVec Ideal S65536x17 .f32 := fun y =>
  rampRow (fun c => X (ix2 (y 0) c)) (fun p k => w1 (ix2 p k)) (fun k => b1 (ix1 k)) (fun k j => w2 (ix2 k j))
    (fun j => b2 (ix1 j)) (y 1)

/-- Which block each window names at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- What is stored at a grid point, read at an index, is the result at the index's place in the array. -/
theorem point (c : Dev nD) (t : Fin cfg0.N) (y : S2048x17.Idx) :
    k0_pay1 (F := Ideal) (k0_pay2 (iblk m c 0 t)) (k0_pay3 (iblk m c 0 t)) (k0_pay4 (iblk m c 0 t))
        (k0_pay5 (iblk m c 0 t) (iblk m c 1 t) (iblk m c 2 t) (iblk m c 3 t) (iblk m c 4 t)) (k0_pay6 (F := Ideal))
        (k0_pay7 (F := Ideal)) (Scalar.ofBits .f32 0x42800000#32) y
      = result (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  idx_vars y
  rw [Block.block_at]
  unfold result
  have e0 : (fun a => iblk m c 0 t (ix2 y0 a))
      = fun a => (m ((c : Thread nD τ).loc main_arg0)) (ix2 (((cfg0.win 5).blk t).view.emb (ix2 y0 y1) 0) a) := by
    funext a; blk_point [iblk, V, idx t]
  have e1 : (fun p k => iblk m c 1 t (ix2 p k)) = fun p k => (m ((c : Thread nD τ).loc main_arg1)) (ix2 p k) := by
    funext p k; blk_point [iblk, V, idx t]
  have e2 : (fun k => iblk m c 2 t (ix2 0 k)) = fun k => (m ((c : Thread nD τ).loc main_arg2)) (ix1 k) := by
    funext k; blk_point [iblk, V, idx t]
  have e3 : (fun k j => iblk m c 3 t (ix2 k j)) = fun k j => (m ((c : Thread nD τ).loc main_arg3)) (ix2 k j) := by
    funext k j; blk_point [iblk, V, idx t]
  have e4 : (fun j => iblk m c 4 t (ix2 0 j)) = fun j => (m ((c : Thread nD τ).loc main_arg4)) (ix1 j) := by
    funext j; blk_point [iblk, V, idx t]
  have e5 : y1 = ((cfg0.win 5).blk t).view.emb (ix2 y0 y1) 1 := by
    refine Fin.ext ?_
    blk_simp [idx t]
  rw [← e0, ← e1, ← e2, ← e3, ← e4, ← e5]

/-- THE RESULT ARRAY after the run. -/
theorem final (c : Dev nD) : (dats m 0 c).arrAt 5 (cfgs 0).N
    = result (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]; frame_out
  exact point m c t y

end Cert.KernelIdeal.Array

end
-- ==== Proof.RefOps.lean ====
module

public import Idealize.ShloMosaic.Lib.Pointwise
public import proofs.«01_k».proof.Proof.Gen.ReferenceIdeal.Run

@[expose] public section

set_option maxRecDepth 16384

noncomputable section

namespace Cert.ReferenceIdeal.Ops

open Idealize.ShloMosaic Idealize.ShloMosaic.TcCoe Idealize.SL.Sem
open Cert.ReferenceIdeal Cert.ReferenceIdeal.Gen Cert.ReferenceIdeal.Value

/-! # Operations of the reference at an index: the running sum, the gather along an axis, the padding in front -/

/-- A conjunction of true bits is true. -/
theorem fold_and_true {α : Type} (s : Finset α) (f : α → BitVec 1) (h : ∀ i ∈ s, f i = 1#1) :
    s.fold IntOp.andi (1#1) f = 1#1 := by
  classical
  induction s using Finset.induction_on with
  | empty => rfl
  | insert a s ha ih =>
    rw [Finset.fold_insert ha, h a (Finset.mem_insert_self a s), ih fun i hi => h i (Finset.mem_insert_of_mem hi)]
    rfl

/-- The window's positions: `n` is at `(0, 0, n)`. -/
theorem window_pos : ∀ n : Fin (⟨3, ![1, 1, 64]⟩ : Shape).numel,
    ((⟨3, ![1, 1, 64]⟩ : Shape).rowMajor.symm n 0).val = 0 ∧ ((⟨3, ![1, 1, 64]⟩ : Shape).rowMajor.symm n 1).val = 0
      ∧ ((⟨3, ![1, 1, 64]⟩ : Shape).rowMajor.symm n 2).val = n.val := by
  decide +kernel

/-- Adding up a list from a start is the start plus the list's sum. -/
theorem foldl_add {α : Type} (g : α → EReal) : ∀ (l : List α) (v : EReal),
    l.foldl (fun r n => r + g n) v = v + (l.map g).sum
  | [], v => (add_zero v).symm
  | a :: l, v => by
    rw [List.foldl_cons, foldl_add g l, List.map_cons, List.sum_cons, add_assoc]

/-- A window of 64 ending at `k` sums the entries up to `k`. -/
theorem window_sum (f : ℕ → EReal) (k : ℕ) (hk : k < 64) :
    ∑ n ∈ Finset.range 64, (if 63 ≤ k + n then f (k + n - 63) else 0) = ∑ i ∈ Finset.range 64, if i ≤ k then f i else 0 := by
  rw [← Finset.sum_filter, ← Finset.sum_filter]
  refine Finset.sum_nbij' (fun n => k + n - 63) (fun i => i + 63 - k) ?_ ?_ ?_ ?_ ?_ <;>
    simp only [Finset.mem_filter, Finset.mem_range] <;> intro a ha <;> first | trivial | omega

/-- The running sum along the last axis: entry `k` is the sum of the entries up to and including `k`. -/
theorem cumsum_at (x : FVec Ideal S65536x8x64 .f32) (z : FVec Ideal S_ .f32) (hz : ∀ i, z i = 0)
    (h : S65536x8x64.ReduceWindows ![1, 1, 64] ![1, 1, 1] ![0, 0, 63] ![0, 0, 0] S65536x8x64) (hu : 0 < S_.numel)
    (r : Fin 65536) (t : Fin 8) (k : Fin 64) :
    Host.reduceWindowAdd (F := Ideal) ![1, 1, 64] ![1, 1, 1] ![0, 0, 63] ![0, 0, 0] x z h hu (ix3 r t k)
      = ∑ i : Fin 64, if i.val ≤ k.val then x (ix3 r t i) else 0 := by
  unfold Host.reduceWindowAdd
  rw [Ideal.hostReduceWindowAdd_def, hz]
  unfold Ideal.hostReduceWindowAdd Host.reduceWindow
  dsimp only
  rw [foldl_add, zero_add]
  let f : ℕ → EReal := fun i => if hi : i < 64 then x (ix3 r t ⟨i, hi⟩) else 0
  have hnum : (⟨3, ![1, 1, 64]⟩ : Shape).numel = 64 := by decide +kernel
  have hr : ∑ i : Fin 64, (if i.val ≤ k.val then x (ix3 r t i) else 0) = ∑ i ∈ Finset.range 64, if i ≤ k.val then f i else 0 := by
    rw [← Fin.sum_univ_eq_sum_range (fun i => if i ≤ k.val then f i else 0)]
    refine Finset.sum_congr rfl fun i _ => ?_
    show _ = if i.val ≤ k.val then f i.val else 0
    rw [show f i.val = x (ix3 r t i) from dif_pos i.isLt]
  rw [hr, ← window_sum f k.val k.isLt]
  refine Eq.trans ?_ ((List.sum_ofFn (f := fun n : Fin (⟨3, ![1, 1, 64]⟩ : Shape).numel =>
    if 63 ≤ k.val + n.val then f (k.val + n.val - 63) else 0)).trans
      ((Fin.sum_univ_eq_sum_range (fun n => if 63 ≤ k.val + n then f (k.val + n - 63) else 0) _).trans
        (congrArg (fun N => ∑ n ∈ Finset.range N, if 63 ≤ k.val + n then f (k.val + n - 63) else 0) hnum)))
  rw [List.ofFn_eq_map]
  refine congrArg List.sum (List.map_congr_left fun n _ => ?_)
  obtain ⟨p0, p1, p2⟩ := window_pos n
  have hn : n.val < 64 := lt_of_lt_of_eq n.isLt hnum
  have hk := k.isLt
  split
  · next hin =>
    have h2 := hin 2
    change 63 ≤ k.val * 1 + ((⟨3, ![1, 1, 64]⟩ : Shape).rowMajor.symm n 2).val
      ∧ k.val * 1 + ((⟨3, ![1, 1, 64]⟩ : Shape).rowMajor.symm n 2).val - 63 < 64 at h2
    rw [p2, Nat.mul_one] at h2
    rw [if_pos h2.1, show f (k.val + n.val - 63) = x (ix3 r t ⟨k.val + n.val - 63, h2.2⟩) from dif_pos h2.2]
    refine congrArg x (funext fun a => Fin.ext ?_)
    match a with
    | ⟨0, _⟩ =>
      show r.val * 1 + ((⟨3, ![1, 1, 64]⟩ : Shape).rowMajor.symm n 0).val - 0 = r.val
      rw [p0]; omega
    | ⟨1, _⟩ =>
      show t.val * 1 + ((⟨3, ![1, 1, 64]⟩ : Shape).rowMajor.symm n 1).val - 0 = t.val
      rw [p1]; omega
    | ⟨2, _⟩ =>
      show k.val * 1 + ((⟨3, ![1, 1, 64]⟩ : Shape).rowMajor.symm n 2).val - 63 = k.val + n.val - 63
      rw [p2, Nat.mul_one]
  · next hin =>
    rw [if_neg fun hle => hin fun a => ?_]
    match a with
    | ⟨0, _⟩ =>
      show 0 ≤ r.val * 1 + ((⟨3, ![1, 1, 64]⟩ : Shape).rowMajor.symm n 0).val
        ∧ r.val * 1 + ((⟨3, ![1, 1, 64]⟩ : Shape).rowMajor.symm n 0).val - 0 < 65536
      rw [p0]; omega
    | ⟨1, _⟩ =>
      show 0 ≤ t.val * 1 + ((⟨3, ![1, 1, 64]⟩ : Shape).rowMajor.symm n 1).val
        ∧ t.val * 1 + ((⟨3, ![1, 1, 64]⟩ : Shape).rowMajor.symm n 1).val - 0 < 8
      rw [p1]; omega
    | ⟨2, _⟩ =>
      show 63 ≤ k.val * 1 + ((⟨3, ![1, 1, 64]⟩ : Shape).rowMajor.symm n 2).val
        ∧ k.val * 1 + ((⟨3, ![1, 1, 64]⟩ : Shape).rowMajor.symm n 2).val - 63 < 64
      rw [p2, Nat.mul_one]; omega

/-- Gathering along the last axis of 65 entries reads the entry the index word names, clamped. -/
theorem gather65_at (x : FVec Ideal S65536x8x65 .f32) (i : IVec S65536x8x1x1 32) (r : Fin 65536) (t : Fin 8) :
    Host.gather gather_S65536x8x65_S65536x8x1x1_S65536x8x1_n_2_01_01_2_3_111 x i (ix3 r t 0)
      = x (ix3 r t ⟨min (i (ix4 r t 0 0)).toInt.toNat 64, by omega⟩) := by
  unfold Host.gather
  congr 1
  funext a
  refine Fin.ext ?_
  have ha : a = 0 ∨ a = 1 ∨ a = 2 := by revert a; decide
  rcases ha with rfl | rfl | rfl
  · show GatherDims.start _ _ _ _ + GatherDims.batchCoord _ _ _ + GatherDims.offCoord _ _ _ = _
    rw [GatherDims.start_batching _ _ _ _ (by decide), GatherDims.offCoord_eq_zero _ _ _ (by decide)]
    simp only [Nat.zero_add, Nat.add_zero]
    unfold GatherDims.batchCoord
    rw [dif_pos (by decide)]
    rfl
  · show GatherDims.start _ _ _ _ + GatherDims.batchCoord _ _ _ + GatherDims.offCoord _ _ _ = _
    rw [GatherDims.start_batching _ _ _ _ (by decide), GatherDims.offCoord_eq_zero _ _ _ (by decide)]
    simp only [Nat.zero_add, Nat.add_zero]
    unfold GatherDims.batchCoord
    rw [dif_pos (by decide)]
    rfl
  · show GatherDims.start _ _ _ _ + GatherDims.batchCoord _ _ _ + GatherDims.offCoord _ _ _ = _
    rw [GatherDims.batchCoord_eq_zero _ _ _ (by decide), GatherDims.offCoord_eq_zero _ _ _ (by decide)]
    simp only [Nat.add_zero]
    unfold GatherDims.start
    rw [dif_pos (by decide)]
    have hsi : ∀ c, gather_S65536x8x65_S65536x8x1x1_S65536x8x1_n_2_01_01_2_3_111.siIdx (ix3 r t 0) c = ix4 r t 0 0 := by
      intro c
      funext b; refine Fin.ext ?_
      match b with
      | ⟨0, _⟩ => rfl
      | ⟨1, _⟩ => rfl
      | ⟨2, _⟩ => rfl
      | ⟨3, _⟩ => exact Nat.lt_one_iff.1 (Fin.isLt _)
    rw [hsi]
    rfl

/-- Gathering along the last axis of 64 entries reads the entry the index word names, clamped. -/
theorem gather64_at (x : FVec Ideal S65536x8x64 .f32) (i : IVec S65536x8x1x1 32) (r : Fin 65536) (t : Fin 8) :
    Host.gather gather_S65536x8x64_S65536x8x1x1_S65536x8x1_n_2_01_01_2_3_111 x i (ix3 r t 0)
      = x (ix3 r t ⟨min (i (ix4 r t 0 0)).toInt.toNat 63, by omega⟩) := by
  unfold Host.gather
  congr 1
  funext a
  refine Fin.ext ?_
  have ha : a = 0 ∨ a = 1 ∨ a = 2 := by revert a; decide
  rcases ha with rfl | rfl | rfl
  · show GatherDims.start _ _ _ _ + GatherDims.batchCoord _ _ _ + GatherDims.offCoord _ _ _ = _
    rw [GatherDims.start_batching _ _ _ _ (by decide), GatherDims.offCoord_eq_zero _ _ _ (by decide)]
    simp only [Nat.zero_add, Nat.add_zero]
    unfold GatherDims.batchCoord
    rw [dif_pos (by decide)]
    rfl
  · show GatherDims.start _ _ _ _ + GatherDims.batchCoord _ _ _ + GatherDims.offCoord _ _ _ = _
    rw [GatherDims.start_batching _ _ _ _ (by decide), GatherDims.offCoord_eq_zero _ _ _ (by decide)]
    simp only [Nat.zero_add, Nat.add_zero]
    unfold GatherDims.batchCoord
    rw [dif_pos (by decide)]
    rfl
  · show GatherDims.start _ _ _ _ + GatherDims.batchCoord _ _ _ + GatherDims.offCoord _ _ _ = _
    rw [GatherDims.batchCoord_eq_zero _ _ _ (by decide), GatherDims.offCoord_eq_zero _ _ _ (by decide)]
    simp only [Nat.add_zero]
    unfold GatherDims.start
    rw [dif_pos (by decide)]
    have hsi : ∀ c, gather_S65536x8x64_S65536x8x1x1_S65536x8x1_n_2_01_01_2_3_111.siIdx (ix3 r t 0) c = ix4 r t 0 0 := by
      intro c
      funext b; refine Fin.ext ?_
      match b with
      | ⟨0, _⟩ => rfl
      | ⟨1, _⟩ => rfl
      | ⟨2, _⟩ => rfl
      | ⟨3, _⟩ => exact Nat.lt_one_iff.1 (Fin.isLt _)
    rw [hsi]
    rfl

/-- A small word, clamped to the last entry, is itself. -/
theorem clamp_word (n : Fin 64) (N : ℕ) (hN : 63 ≤ N) : min (BitVec.ofNat 32 n.val).toInt.toNat N = n.val := by
  have h : (BitVec.ofNat 32 n.val).toInt.toNat = n.val := by revert n; decide +kernel
  rw [h]; omega

/-- Every index into the 65-entry table is in range. -/
theorem in_range65 (w : IVec S65536x8x1x1 32) (b : Fin 65536 → Fin 8 → Fin 64)
    (hw : ∀ r t, w (ix4 r t 0 0) = BitVec.ofNat 32 (b r t).val) (r : Fin 65536) (t : Fin 8)
    (i : Fin 1) : IntOp.andi (IntOp.cmpi .sge (w (ix4 r t 0 i)) 0#32) (IntOp.cmpi .sle (w (ix4 r t 0 i)) 64#32) = 1#1 := by
  obtain rfl : i = 0 := Subsingleton.elim _ _
  rw [hw r t]
  generalize b r t = n
  revert n; decide +kernel

/-- Taking along the last axis of 65 entries, out-of-range indices filled: at indices `b r t` in range it reads entry
    `b r t` of row `r`, block `t`. -/
theorem take65_at (x : FVec Ideal S65536x8x65 .f32) (w : IVec S65536x8x1x1 32) (d : FVec Ideal S65536x8x1 .f32)
    (b : Fin 65536 → Fin 8 → Fin 64) (hw : ∀ r t, w (ix4 r t 0 0) = BitVec.ofNat 32 (b r t).val) (r : Fin 65536) (t : Fin 8) :
    select (Host.reduce IntOp.andi (andi (cmpi .sge w (broadcastInDim S65536x8x1x1 ![] bcast_S_S65536x8x1x1 (constantI S_ 32 0#32)))
        (cmpi .sle w (broadcastInDim S65536x8x1x1 ![0, 1, 2, 3] bcast_S1x1x1x1_S65536x8x1x1_0_1_2_3
          (broadcastInDim S1x1x1x1 ![3] bcast_S1_S1x1x1x1_3 (constantI S1 32 64#32))))) (constantI S_ 1 1#1)
        reducesTo_S65536x8x1x1_S65536x8x1_d3 h_S_)
      (Host.gather gather_S65536x8x65_S65536x8x1x1_S65536x8x1_n_2_01_01_2_3_111 x w) d (ix3 r t 0)
      = x (ix3 r t ⟨(b r t).val, by omega⟩) := by
  pointwise
  rw [fold_and_true _ _ fun i _ => in_range65 w b hw r t i, gather65_at]
  refine (congrArg x (congrArg (ix3 r t) (Fin.ext ?_)) : _)
  show min _ 64 = _
  rw [hw, clamp_word _ 64 (by omega)]

/-- Every index into the 64-entry table is in range. -/
theorem in_range64 (w : IVec S65536x8x1x1 32) (b : Fin 65536 → Fin 8 → Fin 64)
    (hw : ∀ r t, w (ix4 r t 0 0) = BitVec.ofNat 32 (b r t).val) (r : Fin 65536) (t : Fin 8)
    (i : Fin 1) : IntOp.andi (IntOp.cmpi .sge (w (ix4 r t 0 i)) 0#32) (IntOp.cmpi .sle (w (ix4 r t 0 i)) 63#32) = 1#1 := by
  obtain rfl : i = 0 := Subsingleton.elim _ _
  rw [hw r t]
  generalize b r t = n
  revert n; decide +kernel

/-- Taking along the last axis of 64 entries, out-of-range indices filled: at indices `b r t` in range it reads entry
    `b r t` of row `r`, block `t`. -/
theorem take64_at (x : FVec Ideal S65536x8x64 .f32) (w : IVec S65536x8x1x1 32) (d : FVec Ideal S65536x8x1 .f32)
    (b : Fin 65536 → Fin 8 → Fin 64) (hw : ∀ r t, w (ix4 r t 0 0) = BitVec.ofNat 32 (b r t).val) (r : Fin 65536) (t : Fin 8) :
    select (Host.reduce IntOp.andi (andi (cmpi .sge w (broadcastInDim S65536x8x1x1 ![] bcast_S_S65536x8x1x1 (constantI S_ 32 0#32)))
        (cmpi .sle w (broadcastInDim S65536x8x1x1 ![0, 1, 2, 3] bcast_S1x1x1x1_S65536x8x1x1_0_1_2_3
          (broadcastInDim S1x1x1x1 ![3] bcast_S1_S1x1x1x1_3 (constantI S1 32 63#32))))) (constantI S_ 1 1#1)
        reducesTo_S65536x8x1x1_S65536x8x1_d3 h_S_)
      (Host.gather gather_S65536x8x64_S65536x8x1x1_S65536x8x1_n_2_01_01_2_3_111 x w) d (ix3 r t 0)
      = x (ix3 r t ⟨(b r t).val, by omega⟩) := by
  pointwise
  rw [fold_and_true _ _ fun i _ => in_range64 w b hw r t i, gather64_at]
  refine (congrArg x (congrArg (ix3 r t) (Fin.ext ?_)) : _)
  show min _ 63 = _
  rw [hw, clamp_word _ 63 (by omega)]

/-- A table of 64 entries with one value put in front: entry `n` is that value at `0`, else entry `n - 1`. -/
theorem front_at (x : FVec Ideal S65536x8x64 .f32) (z : FVec Ideal S_ .f32) (r : Fin 65536) (t : Fin 8) (n : Fin 64) :
    pad S65536x8x65 ![0, 0, 1] ![0, 0, 0] ![0, 0, 0] x z pads_S65536x8x64_S65536x8x65_000_000_100 h_S_
        (ix3 r t ⟨n.val, by omega⟩)
      = if h : n.val < 1 then z ix0 else x (ix3 r t ⟨n.val - 1, by omega⟩) := by
  pointwise
  by_cases h : n.val < 1
  · rw [dif_pos h, dif_neg (by omega)]
    exact congrArg z (Subsingleton.elim _ _)
  · rw [dif_neg h, dif_pos ⟨by omega, by omega⟩]

end Cert.ReferenceIdeal.Ops

end
-- ==== Proof.RefValue.lean ====
module

public import Idealize.ShloMosaic.Lib.Pointwise
public import proofs.«01_k».proof.Proof.RefOps
public import proofs.«01_k».proof.Proof.Spec

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.ReferenceIdeal.Value Cert.ReferenceIdeal.Ops Cert.Scalar Cert.Spec

/-! # What the reference computes, row by row -/

variable (V0 : Valuation τ sig (Elt Ideal))

/-- The input rows. -/
abbrev rows : FVec Ideal S65536x17 .f32 := V0 (Proc.devRef .tc main_arg0)

/-- Row `r` of the input. -/
abbrev row (r : Fin 65536) (c : Fin 17) : EReal := rows V0 (ix2 r c)

/-- The first layer's matrix. -/
abbrev mat1 (p : Fin 8) (k : Fin 128) : EReal := (V0 (Proc.devRef .tc main_arg1) : FVec Ideal S8x128 .f32) (ix2 p k)

/-- The first layer's bias. -/
abbrev bias1 (k : Fin 128) : EReal := (V0 (Proc.devRef .tc main_arg2) : FVec Ideal S128 .f32) (ix1 k)

/-- The second layer's matrix. -/
abbrev mat2 (k : Fin 128) (j : Fin 512) : EReal := (V0 (Proc.devRef .tc main_arg3) : FVec Ideal S128x512 .f32) (ix2 k j)

/-- The second layer's bias. -/
abbrev bias2 (j : Fin 512) : EReal := (V0 (Proc.devRef .tc main_arg4) : FVec Ideal S512 .f32) (ix1 j)

/-- The weights of row `r`, block `t`. -/
abbrev cell (r : Fin 65536) (t : Fin 8) : Fin 64 → EReal := rowCell (row V0 r) (mat1 V0) (bias1 V0) (mat2 V0) (bias2 V0) t

/-- The reshaped softplus output holds the weights. -/
theorem weights_at (r : Fin 65536) (t : Fin 8) (k : Fin 64) :
    (res_main_v13 V0 : FVec Ideal S65536x8x64 .f32) (ix3 r t k) = cell V0 r t k := by
  pointwise [res_main_v13, res_main_v11, res_main_call0_cst, res_main_call0_v3, res_main_v0]
  rw [if_neg (not_not_intro rfl)]
  rfl

/-- The running sums of the weights. -/
theorem sums_at (r : Fin 65536) (t : Fin 8) (k : Fin 64) :
    (res_main_v14 V0 : FVec Ideal S65536x8x64 .f32) (ix3 r t k) = upTo (cell V0 r t) k := by
  have h : (res_main_v14 V0 : FVec Ideal S65536x8x64 .f32) (ix3 r t k)
      = upTo (fun i => (res_main_v13 V0 : FVec Ideal S65536x8x64 .f32) (ix3 r t i)) k := by
    exact cumsum_at (res_main_v13 V0) (broadcastInDim S_ ![] bcast_S_S_ (constant S_ .f32 0x00000000#32))
      (fun i => by pointwise) reduceWindows_S65536x8x64_S65536x8x64_w1s1p0_0_w1s1p0_0_w64s1p63_0 h_S_ r t k
  rw [h, show (fun i => (res_main_v13 V0 : FVec Ideal S65536x8x64 .f32) (ix3 r t i)) = cell V0 r t from
    funext fun i => weights_at V0 r t i]

/-- The last running sum is the total. -/
theorem total_at (r : Fin 65536) (t : Fin 8) :
    (res_main_v15 V0 : FVec Ideal S65536x8x1 .f32) (ix3 r t 0) = total (cell V0 r t) := by
  pointwise [res_main_v15]
  exact (sums_at V0 r t 63).trans (upTo_last _)

/-- The positions. -/
theorem pos_at (r : Fin 65536) (t : Fin 8) :
    (res_main_v24 V0 : FVec Ideal S65536x8 .f32) (ix2 r t) = rowPos (row V0 r) t := by
  pointwise [res_main_v24]
  rw [lit64]
  rfl

/-- The whole part of a real in cell `n`, as an integer word. -/
theorem word_of_floor (u : ℝ) (n : Fin 64) (h : ⌊u⌋ = (n.val : ℤ)) :
    FloatOps.fptosi (F := Ideal) (φ := .f32) 32 (Ideal.liftRound Int.floor (u : EReal)) = BitVec.ofNat 32 n.val := by
  show BitVec.ofInt 32 (Ideal.toIntClamped (-(2 ^ (32 - 1) : Nat)) ((2 ^ (32 - 1) : Nat) - 1) (((⌊u⌋ : ℤ) : ℝ) : EReal)) = _
  rw [Ideal.toIntClamped_coe, if_pos (by rw [h]; positivity), Int.floor_intCast, h]
  have hn := n.isLt
  rw [min_eq_right (by push_cast; omega), max_eq_right (by push_cast; omega)]
  exact BitVec.ofInt_natCast 32 n.val

/-- The three pieces of a row of the result: eight columns, eight columns and one. -/
theorem pieces_at (x y : FVec Ideal S65536x8 .f32) (z : FVec Ideal S65536x1 .f32) (r : Fin 65536) :
    (∀ p : Fin 8, concatenate S65536x17 1 [⟨S65536x8, x⟩, ⟨S65536x8, y⟩, ⟨S65536x1, z⟩]
        concatenates_S65536x8_S65536x8_S65536x1_S65536x17_d1 (ix2 r ⟨p.val, by omega⟩) = x (ix2 r p))
      ∧ (∀ t : Fin 8, concatenate S65536x17 1 [⟨S65536x8, x⟩, ⟨S65536x8, y⟩, ⟨S65536x1, z⟩]
        concatenates_S65536x8_S65536x8_S65536x1_S65536x17_d1 (ix2 r ⟨8 + t.val, by omega⟩) = y (ix2 r t))
      ∧ concatenate S65536x17 1 [⟨S65536x8, x⟩, ⟨S65536x8, y⟩, ⟨S65536x1, z⟩]
        concatenates_S65536x8_S65536x8_S65536x1_S65536x17_d1 (ix2 r ⟨16, by omega⟩) = z (ix2 r 0) := by
  refine ⟨fun p => ?_, fun t => ?_, ?_⟩ <;> pointwise

/-- The running shares, a zero put in front of each block, looked up at the cells: the reference's term. -/
def shares : FVec Ideal S65536x8x1 .f32 :=
  select
    (Host.reduce IntOp.andi
      (andi (cmpi .sge (res_main_call3_v5 V0) (broadcastInDim S65536x8x1x1 ![] bcast_S_S65536x8x1x1 (constantI S_ 32 0#32)))
        (cmpi .sle (res_main_call3_v5 V0) (broadcastInDim S65536x8x1x1 ![0, 1, 2, 3] bcast_S1x1x1x1_S65536x8x1x1_0_1_2_3
          (broadcastInDim S1x1x1x1 ![3] bcast_S1_S1x1x1x1_3 (constantI S1 32 64#32)))))
      (constantI S_ 1 1#1) reducesTo_S65536x8x1x1_S65536x8x1_d3 h_S_)
    (Host.gather gather_S65536x8x65_S65536x8x1x1_S65536x8x1_n_2_01_01_2_3_111
      (pad S65536x8x65 ![0, 0, 1] ![0, 0, 0] ![0, 0, 0]
        (Host.divf (res_main_v14 V0)
          (broadcastInDim S65536x8x64 ![0, 1, 2] bcast_S65536x8x1_S65536x8x64_0_1_2 (res_main_v15 V0)))
        (sitofp .f32 (constantI S_ 32 0#32)) pads_S65536x8x64_S65536x8x65_000_000_100 h_S_)
      (res_main_call3_v5 V0))
    (broadcastInDim S65536x8x1 ![] bcast_S_S65536x8x1 (constant S_ .f32 0x7FC00000#32))

/-- The slopes `s` times the fractions `u - v` over 64, plus the shares `w`, as rows of eight. -/
def values (s w : FVec Ideal S65536x8x1 .f32) (u v : FVec Ideal S65536x8 .f32) : FVec Ideal S65536x8 .f32 :=
  shapeCast _
    (addf (mulf s (broadcastInDim S65536x8x1 ![0, 1] bcast_S65536x8_S65536x8x1_0_1
      (Host.divf (subf u v) (broadcastInDim S65536x8 ![] bcast_S_S65536x8 (constant S_ .f32 0x42800000#32))))) w)
    shapeCasts_S65536x8x1_S65536x8

/-- The values at an index. -/
theorem values_at (s w : FVec Ideal S65536x8x1 .f32) (u v : FVec Ideal S65536x8 .f32) (r : Fin 65536) (t : Fin 8) :
    values s w u v (ix2 r t)
      = s (ix3 r t 0) * Ideal.div (u (ix2 r t) - v (ix2 r t)) ((64 : ℝ) : EReal) + w (ix3 r t 0) := by
  pointwise [values]
  rw [lit64]

/-- The slopes of one block, cut out as a column: `h` says the block lies in the array. -/
abbrev column (s : FVec Ideal S65536x8x1 .f32) (n : ℕ) (h : S65536x8x1.Slices ![0, n, 0] S65536x1x1) : FVec Ideal S65536x1 .f32 :=
  shapeCast _ (extractStridedSlice S65536x1x1 ![0, n, 0] s h) shapeCasts_S65536x1x1_S65536x1

/-- The last column of the input times the product of the eight columns of slopes. -/
def jacobians (x : FVec Ideal S65536x17 .f32) (s : FVec Ideal S65536x8x1 .f32) : FVec Ideal S65536x1 .f32 :=
  mulf (extractStridedSlice S65536x1 ![0, 16] x slices_S65536x17_S65536x1_0_16)
    (mulf (mulf (mulf (mulf (mulf (mulf (mulf
      (column s 0 slices_S65536x8x1_S65536x1x1_0_0_0) (column s 1 slices_S65536x8x1_S65536x1x1_0_1_0))
      (column s 2 slices_S65536x8x1_S65536x1x1_0_2_0)) (column s 3 slices_S65536x8x1_S65536x1x1_0_3_0))
      (column s 4 slices_S65536x8x1_S65536x1x1_0_4_0)) (column s 5 slices_S65536x8x1_S65536x1x1_0_5_0))
      (column s 6 slices_S65536x8x1_S65536x1x1_0_6_0)) (column s 7 slices_S65536x8x1_S65536x1x1_0_7_0))

/-- The jacobians at a row. -/
theorem jacobians_at (x : FVec Ideal S65536x17 .f32) (s : FVec Ideal S65536x8x1 .f32) (r : Fin 65536) :
    jacobians x s (ix2 r 0) = x (ix2 r ⟨16, by omega⟩) * ∏ t : Fin 8, s (ix3 r t 0) := by
  rw [Fin.prod_univ_eight]
  pointwise [jacobians]

/-- The reference's result, as a term of its arguments. -/
def result : FVec Ideal S65536x17 .f32 :=
  concatenate S65536x17 1
    [⟨S65536x8, res_main_v0 V0⟩, ⟨S65536x8, values (res_main_v32 V0) (shares V0) (res_main_v24 V0) (res_main_v25 V0)⟩,
      ⟨S65536x1, jacobians (rows V0) (res_main_v32 V0)⟩]
    concatenates_S65536x8_S65536x8_S65536x1_S65536x17_d1

variable (b : Fin 65536 → Fin 8 → Fin 64)
  (hb : ∀ r t, ∃ u : ℝ, rowPos (row V0 r) t = (u : EReal) ∧ ⌊u⌋ = ((b r t).val : ℤ))

include hb

/-- The index word of row `r`, block `t` for the 65-entry table is the cell. -/
theorem word65_at (r : Fin 65536) (t : Fin 8) :
    (res_main_call3_v5 V0 : IVec S65536x8x1x1 32) (ix4 r t 0 0) = BitVec.ofNat 32 (b r t).val := by
  pointwise [res_main_call3_v5, res_main_v30, res_main_v25]
  obtain ⟨u, hu, hf⟩ := hb r t
  simp only [pos_at, hu, word_of_floor u (b r t) hf]
  generalize b r t = n
  revert n; decide +kernel

/-- The index word of row `r`, block `t` for the 64-entry table is the cell. -/
theorem word64_at (r : Fin 65536) (t : Fin 8) :
    (res_main_call4_v5 V0 : IVec S65536x8x1x1 32) (ix4 r t 0 0) = BitVec.ofNat 32 (b r t).val := by
  pointwise [res_main_call4_v5, res_main_v30, res_main_v25]
  obtain ⟨u, hu, hf⟩ := hb r t
  simp only [pos_at, hu, word_of_floor u (b r t) hf]
  generalize b r t = n
  revert n; decide +kernel

/-- The slope read at row `r`, block `t`. -/
theorem slope_at (r : Fin 65536) (t : Fin 8) :
    (res_main_v32 V0 : FVec Ideal S65536x8x1 .f32) (ix3 r t 0) = cellSlope (cell V0 r t) (b r t) := by
  unfold res_main_v32
  refine (take64_at _ _ _ b (word64_at V0 b hb) r t).trans ?_
  pointwise
  simp only [weights_at, total_at, lit64]
  rfl

/-- The share before the cell read at row `r`, block `t`, from the running sums padded with a zero in front. -/
theorem before_at (r : Fin 65536) (t : Fin 8) :
    shares V0 (ix3 r t 0) = before (cell V0 r t) (b r t) := by
  refine (take65_at _ _ _ b (word65_at V0 b hb) r t).trans ((front_at _ _ r t (b r t)).trans ?_)
  unfold before
  by_cases h : (b r t).val < 1
  · rw [dif_pos h, dif_pos h]
    show (((0#32 : BitVec 32).toInt : ℝ) : EReal) = 0
    simp
  · rw [dif_neg h, dif_neg h]
    pointwise
    rw [sums_at, total_at]

/-- WHAT THE REFERENCE COMPUTES: row `r`, column `c` of its result is the row in the cell spelling. -/
theorem result_at (r : Fin 65536) (c : Fin 17) :
    result V0 (ix2 r c) = cellRow (row V0 r) (mat1 V0) (bias1 V0) (mat2 V0) (bias2 V0) (b r) c := by
  unfold result
  rcases col_cases c with h8 | ⟨t, rfl⟩ | rfl
  · unfold cellRow
    rw [if_pos h8]
    refine ((pieces_at _ _ _ r).1 ⟨c.val, h8⟩).trans ?_
    pointwise [res_main_v0]
  · refine ((pieces_at _ _ _ r).2.1 t).trans ?_
    refine (values_at _ _ _ _ r t).trans ?_
    rw [cellRow_mid, slope_at V0 b hb, before_at V0 b hb, pos_at]
    have hf : res_main_v25 V0 (ix2 r t) = whole (rowPos (row V0 r) t) := by
      pointwise [res_main_v25]
      rw [pos_at]
      rfl
    rw [hf]
    rfl
  · refine ((pieces_at _ _ _ r).2.2).trans ?_
    refine (jacobians_at _ _ r).trans ?_
    simp only [slope_at V0 b hb]
    rfl

end Cert.ReferenceIdeal.Rows

end
-- ==== Proof.Equation.lean ====
module

public import Idealize.ShloMosaic.Lib.Pointwise
public import proofs.«01_k».proof.Defs
public import proofs.«01_k».proof.Proof.KernelValue
public import proofs.«01_k».proof.Proof.RefValue

@[expose] public section

set_option maxRecDepth 16384

noncomputable section

namespace Cert.Equation

open Idealize.ShloMosaic Idealize.ShloMosaic.TcCoe Idealize.SL.Sem
open Cert.KernelIdeal Cert.Scalar Cert.Spec

/-! # From the precondition to the equation of the two results -/

/-- The side conditions of the precondition's operations. -/
theorem pre_facts : Cert.Pre_in_unit.Facts where
  slices_S65536x17_S65536x8_0_8 := by decide
  bcast_S_S65536x8 := by decide
  bcast_S_S128x512 := by decide
  bcast_S_S512 := by decide

/-- The two infinities among the precondition's literals. -/
theorem lit_infinities : Ideal.ofBits .f32 0x7F800000#32 = ⊤ ∧ Ideal.ofBits .f32 0xFF800000#32 = ⊥ := by
  constructor <;> simp [Ideal.ofBits, Ideal.ieee]

/-- Two one-bit truth values whose conjunction is one are both true. -/
theorem both_of (p q : Prop) [Decidable p] [Decidable q]
    (e : IntOp.andi (BitVec.ofBool (decide p)) (BitVec.ofBool (decide q)) = 1#1) : p ∧ q := by
  by_cases hp : p <;> by_cases hq : q <;> simp_all [IntOp.andi]

/-- What the precondition says of the arrays: each transformed coordinate lies between `0` and `1`, each entry of the
    second matrix between the infinities, and no entry of the second bias is `⊥`. -/
theorem pre_means [Cert.Pre_in_unit.Facts] (X : FVec Ideal S65536x17 .f32) (w1 : FVec Ideal S8x128 .f32) (b1 : FVec Ideal S128 .f32)
    (w2 : FVec Ideal S128x512 .f32) (b2 : FVec Ideal S512 .f32)
    (h : (Cert.Pre_in_unit.fn (F := Ideal) X w1 b1 w2 b2).1 = (fun _ => 1#1)
      ∧ (Cert.Pre_in_unit.fn (F := Ideal) X w1 b1 w2 b2).2.1 = (fun _ => 1#1)
      ∧ (Cert.Pre_in_unit.fn (F := Ideal) X w1 b1 w2 b2).2.2 = (fun _ => 1#1)) :
    (∀ (r : Fin 65536) (t : Fin 8), 0 ≤ X (ix2 r (midCol t)) ∧ X (ix2 r (midCol t)) < 1)
      ∧ (∀ (k : Fin 128) (j : Fin 512), ⊥ < w2 (ix2 k j) ∧ w2 (ix2 k j) < ⊤) ∧ ∀ j : Fin 512, ⊥ < b2 (ix1 j) := by
  obtain ⟨h0, h1, h2⟩ := h
  refine ⟨fun r t => ?_, fun k j => ?_, fun j => ?_⟩
  · have e := congrFun h0 (ix2 r t)
    pointwise [Cert.Pre_in_unit.fn] at e
    exact both_of _ _ e
  · have e := congrFun h1 (ix2 k j)
    pointwise [Cert.Pre_in_unit.fn] at e
    rw [lit_infinities.1, lit_infinities.2] at e
    exact both_of _ _ e
  · have e := congrFun h2 (ix1 j)
    pointwise [Cert.Pre_in_unit.fn] at e
    rw [lit_infinities.2] at e
    exact (both_of _ True (by simp_all [IntOp.andi])).1

/-- A position from a coordinate in `[0, 1)`: 64 times it is a real whose whole part names one of the 64 cells. -/
theorem cell_of (x : EReal) (h0 : 0 ≤ x) (h1 : x < 1) :
    ∃ b : Fin 64, ∃ u : ℝ, x * ((64 : ℝ) : EReal) = (u : EReal) ∧ ⌊u⌋ = (b.val : ℤ) := by
  induction x using EReal.rec with
  | bot => exact absurd h0 (by simp)
  | top => exact absurd h1 (by simp)
  | coe r =>
    have r0 : 0 ≤ r := by exact_mod_cast h0
    have r1 : r < 1 := by exact_mod_cast h1
    have f0 : 0 ≤ ⌊r * 64⌋ := Int.floor_nonneg.mpr (by positivity)
    have f1 : ⌊r * 64⌋ < 64 := Int.floor_lt.mpr (by push_cast; linarith)
    refine ⟨⟨⌊r * 64⌋.toNat, by omega⟩, r * 64, (EReal.coe_mul _ _).symm, ?_⟩
    show _ = ((⌊r * 64⌋.toNat : ℕ) : ℤ)
    omega

/-- THE EQUATION: under the precondition the kernel's result is the reference's, `V0` holding the same five arrays. -/
theorem results_eq [Cert.Pre_in_unit.Facts] (V0 : Valuation Cert.ReferenceIdeal.τ Cert.ReferenceIdeal.sig (Elt Ideal))
    (X : FVec Ideal S65536x17 .f32) (w1 : FVec Ideal S8x128 .f32) (b1 : FVec Ideal S128 .f32)
    (w2 : FVec Ideal S128x512 .f32) (b2 : FVec Ideal S512 .f32)
    (e0 : V0 (Proc.devRef .tc Cert.ReferenceIdeal.main_arg0) = X) (e1 : V0 (Proc.devRef .tc Cert.ReferenceIdeal.main_arg1) = w1)
    (e2 : V0 (Proc.devRef .tc Cert.ReferenceIdeal.main_arg2) = b1) (e3 : V0 (Proc.devRef .tc Cert.ReferenceIdeal.main_arg3) = w2)
    (e4 : V0 (Proc.devRef .tc Cert.ReferenceIdeal.main_arg4) = b2)
    (h : (Cert.Pre_in_unit.fn (F := Ideal) X w1 b1 w2 b2).1 = (fun _ => 1#1)
      ∧ (Cert.Pre_in_unit.fn (F := Ideal) X w1 b1 w2 b2).2.1 = (fun _ => 1#1)
      ∧ (Cert.Pre_in_unit.fn (F := Ideal) X w1 b1 w2 b2).2.2 = (fun _ => 1#1)) :
    Cert.ReferenceIdeal.Rows.result V0 = Array.result X w1 b1 w2 b2 := by
  obtain ⟨hx, hw, hb⟩ := pre_means X w1 b1 w2 b2 h
  choose b hcell using fun r t => cell_of _ (hx r t).1 (hx r t).2
  subst e0 e1 e2 e3 e4
  funext y
  idx_vars y
  refine (Cert.ReferenceIdeal.Rows.result_at V0 b hcell y0 y1).trans
    (row_eq (Cert.ReferenceIdeal.Rows.row V0 y0) _ _ _ _ _ (fun k j => ?_) (fun j => (hb j).ne') (hcell y0) y1).symm
  exact ⟨_, (EReal.coe_toReal (hw k j).2.ne (hw k j).1.ne').symm⟩

end Cert.Equation

end
-- ==== Proof.lean ====
/-
  The certificate, assembled. The frames of the two kernel programs are the generated ones; the reference's frame is read off
  its run; the idealization rewrites nothing; and the value claim joins the run of the kernel, whose result array
  `Proof.KernelValue` computes, to the run of the reference, whose result `Proof.RefValue` computes, by the equation of
  `Proof.Equation`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.RefValue
public import proofs.«01_k».proof.Proof.Equation
public import Idealize.ShloMosaic.Adequacy
public import Idealize.ShloMosaic.Init

@[expose] public section

noncomputable section

namespace Cert.Proof

open Idealize.ShloMosaic Idealize.SL.Sem

/-- The reference runs, leaves its arguments unchanged, and ends with every semaphore counter at zero. -/
theorem reference_frame : Cert.quiescent_ReferenceIdeal (hReferenceIdeal := Cert.ReferenceIdeal.Gen.facts) := by
  intro m g _
  exact (θ_run _ _ _).mono (fun r h => ⟨fun c => (h c).2, sem_eq_zero_of_no_sems (by decide) r.2⟩)
    (Cert.ReferenceIdeal.Value.run m g)

/-- THE VALUE CLAIM: from memories that agree on the arguments and meet the precondition, the kernel and the reference run
    and end with equal results, as extended reals, and with their arguments unchanged. -/
theorem values : Cert.algebraic_KernelIdeal_ReferenceIdeal_pre_in_unit (hKernelIdeal := Cert.KernelIdeal.Gen.facts)
    (hReferenceIdeal := Cert.ReferenceIdeal.Gen.facts) (hPre_in_unit := Cert.Equation.pre_facts) := by
  intro m g m' g' hpre hagree
  haveI := Cert.Equation.pre_facts
  refine ⟨fun c => (Cert.KernelIdeal.Gen.dats m 0 c).arrAt 5 Cert.KernelIdeal.cfg0.N, Cert.KernelIdeal.Value.run_blocks m g, ?_⟩
  refine (θ_run _ _ _).mono (fun r h c => ⟨(h c).1.trans ?_, (h c).2⟩) (Cert.ReferenceIdeal.Value.run m' g')
  obtain ⟨a0, a1, a2, a3, a4⟩ := hagree c
  exact (Cert.Equation.results_eq (StableHlo.launchContents m' c) _ _ _ _ _ a0 a1 a2 a3 a4 (hpre c)).trans
    (Cert.KernelIdeal.Array.final m c).symm

/-- Everything the certificate claims. -/
theorem claim : Cert.Claim :=
  ⟨Cert.Kernel.Gen.facts, Cert.KernelIdeal.Gen.facts, Cert.ReferenceIdeal.Gen.facts, Cert.Equation.pre_facts,
    fun m g _ => Cert.Kernel.Gen.frame m g, fun m g _ => Cert.KernelIdeal.Gen.frame m g, fun m g _ => Cert.KernelIdeal.Gen.frame m g,
    reference_frame, fun m g _ => reference_frame m g trivial, trivial, values⟩

end Cert.Proof

end
